-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x256 : Shape := ⟨2, ![1024, 256]⟩
abbrev S4x256x256 : Shape := ⟨3, ![4, 256, 256]⟩
abbrev S4 : Shape := ⟨1, ![4]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x256, .f32⟩
  | .local _ .vmem, ⟨0, _⟩ => ⟨S256x1024, .f32⟩
  | .local _ .vmem, ⟨1, _⟩ => ⟨S1024x1024, .f32⟩
  | .local _ .vmem, ⟨2, _⟩ => ⟨S1024x256, .f32⟩
  | .local _ .vmem, ⟨3, _⟩ => ⟨S4x256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_52 : BitVec 32 := 0#32
  let c0_i32_50 : BitVec 32 := 0#32
  let c1_i32_51 : BitVec 32 := 1#32
  let v80 : BitVec 32 := Scalar.muli c0_i32_50 c1_i32_51
  let v81 : BitVec 32 := Scalar.addi c0_i32_52 v80
  v81.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_52 : BitVec 32 := 0#32
  let c1_i32_50 : BitVec 32 := 1#32
  let c1_i32_51 : BitVec 32 := 1#32
  let v80 : BitVec 32 := Scalar.muli c1_i32_50 c1_i32_51
  let v81 : BitVec 32 := Scalar.addi c0_i32_52 v80
  v81.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_52 : BitVec 32 := 0#32
  let c2_i32_50 : BitVec 32 := 2#32
  let c1_i32_51 : BitVec 32 := 1#32
  let v80 : BitVec 32 := Scalar.muli c2_i32_50 c1_i32_51
  let v81 : BitVec 32 := Scalar.addi c0_i32_52 v80
  v81.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_52 : BitVec 32 := 0#32
  let c3_i32_50 : BitVec 32 := 3#32
  let c1_i32_51 : BitVec 32 := 1#32
  let v80 : BitVec 32 := Scalar.muli c3_i32_50 c1_i32_51
  let v81 : BitVec 32 := Scalar.addi c0_i32_52 v80
  v81.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_12 : BitVec 32 := 0#32
  let v26 : BitVec 1 := Scalar.cmpi .ne v2 c0_i32_12
  let v27 : BitVec 32 := Scalar.extui v26
  let c0_i32_13 : BitVec 32 := 0#32
  let v28 : BitVec 1 := Scalar.cmpi .ne v27 c0_i32_13
  v28

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v83 : BitVec 32 := Scalar.muli v2 c256_i32
  let c0_i32_57 : BitVec 32 := 0#32
  ![v83.toNat, 0]
def k0_dev5 : Nat :=
  let c0_i32_56 : BitVec 32 := 0#32
  let c0_i32_54 : BitVec 32 := 0#32
  let c1_i32_55 : BitVec 32 := 1#32
  let v84 : BitVec 32 := Scalar.muli c0_i32_54 c1_i32_55
  let v85 : BitVec 32 := Scalar.addi c0_i32_56 v84
  v85.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v39 : BitVec 1 := Scalar.cmpi .ne v2 c1_i32_21
  let v40 : BitVec 32 := Scalar.extui v39
  let c0_i32_22 : BitVec 32 := 0#32
  let v41 : BitVec 1 := Scalar.cmpi .ne v40 c0_i32_22
  v41

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v83 : BitVec 32 := Scalar.muli v2 c256_i32
  let c0_i32_56 : BitVec 32 := 0#32
  ![v83.toNat, 0]
def k0_dev6 : Nat :=
  let c0_i32_55 : BitVec 32 := 0#32
  let c1_i32_53 : BitVec 32 := 1#32
  let c1_i32_54 : BitVec 32 := 1#32
  let v84 : BitVec 32 := Scalar.muli c1_i32_53 c1_i32_54
  let v85 : BitVec 32 := Scalar.addi c0_i32_55 v84
  v85.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v52 : BitVec 1 := Scalar.cmpi .ne v2 c2_i32_30
  let v53 : BitVec 32 := Scalar.extui v52
  let c0_i32_31 : BitVec 32 := 0#32
  let v54 : BitVec 1 := Scalar.cmpi .ne v53 c0_i32_31
  v54

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v83 : BitVec 32 := Scalar.muli v2 c256_i32
  let c0_i32_56 : BitVec 32 := 0#32
  ![v83.toNat, 0]
def k0_dev7 : Nat :=
  let c0_i32_55 : BitVec 32 := 0#32
  let c2_i32_53 : BitVec 32 := 2#32
  let c1_i32_54 : BitVec 32 := 1#32
  let v84 : BitVec 32 := Scalar.muli c2_i32_53 c1_i32_54
  let v85 : BitVec 32 := Scalar.addi c0_i32_55 v84
  v85.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_39 : BitVec 32 := 3#32
  let v65 : BitVec 1 := Scalar.cmpi .ne v2 c3_i32_39
  let v66 : BitVec 32 := Scalar.extui v65
  let c0_i32_40 : BitVec 32 := 0#32
  let v67 : BitVec 1 := Scalar.cmpi .ne v66 c0_i32_40
  v67

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v83 : BitVec 32 := Scalar.muli v2 c256_i32
  let c0_i32_56 : BitVec 32 := 0#32
  ![v83.toNat, 0]
def k0_dev8 : Nat :=
  let c0_i32_55 : BitVec 32 := 0#32
  let c3_i32_53 : BitVec 32 := 3#32
  let c1_i32_54 : BitVec 32 := 1#32
  let v84 : BitVec 32 := Scalar.muli c3_i32_53 c1_i32_54
  let v85 : BitVec 32 := Scalar.addi c0_i32_55 v84
  v85.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.IdealProtocol.lean ====
/-
# The all-to-all protocol of the kernel, for any float values: cells, contents, schedule, levels

Four devices. Device `c` computes, for every `j`, the block `relu (x_c · w[:, 256 j : 256 j + 256])`; block `c` it
stores into its own result, block `j ≠ c` it copies into rows `256 c` of device `j`'s result. Before the copies every
device signals each peer's barrier semaphore once and waits for three such signals.

The protocol, in the terms of the rounds library, has one round. Duty names are devices.
* Barrier cell of `c`: one duty per peer `d`, one unit, which hands `c` rows `256 c` of `d`'s result buffer.
* Receive cell `j` of `c`, `j ≠ c`: the duty `j`, one block's credit, which hands `c` rows `256 j` of its own result,
  holding device `j`'s block.
* Send cell `j` of `c`, `j ≠ c`: the duty `c`, one block's credit, which hands back slot `j` of the send buffer.
The send and receive cell `c` of device `c` itself carry no duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the kernel's own, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter at zero, any generator registers. -/
def s₀ : MemSt nD τ sig (Elt F) := ⟨m, fun _ => 0, ρ⟩

/-! ## Buffers, their parts, and the semaphore cells -/

abbrev xM : Memref sig .tc .vmem S256x1024 .f32 := Memref.whole cc0_stg0_0
abbrev wM : Memref sig .tc .vmem S1024x1024 .f32 := Memref.whole cc0_stg1_0
abbrev oM : Memref sig .tc .vmem S1024x256 .f32 := Memref.whole cc0_stg2_0
abbrev sM : Memref sig .tc .vmem S4x256x256 .f32 := Memref.whole cc0_scratch0

/-- The 256 rows from `256 j` on lie in the 1024 rows of a result. -/
theorem row_fits (j : Fin 4) : ∀ a, (![256 * j.val, 0] : Fin 2 → ℕ) a + S256x256.size a ≤ S1024x256.size a := by
  revert j; decide
/-- The 256 columns from `256 j` on lie in the 1024 columns of the weights. -/
theorem col_fits (j : Fin 4) : ∀ a, (![0, 256 * j.val] : Fin 2 → ℕ) a + S1024x256.size a ≤ S1024x1024.size a := by
  revert j; decide
/-- Slot `j` lies in the four slots of the send buffer. -/
theorem slot_fits (j : Fin 4) : ∀ a, (![j.val, 0, 0] : Fin 3 → ℕ) a + S1x256x256.size a ≤ S4x256x256.size a := by
  revert j; decide
/-- Entry `j` lies in an array of four semaphores. -/
theorem sem_fits (j : Fin 4) : ∀ a, (![j.val] : Fin 1 → ℕ) a + S1.size a ≤ S4.size a := by
  revert j; decide

/-- Rows `256 j … 256 j + 255` of the result buffer. -/
abbrev rowR (j : Fin 4) : Rect S1024x256 := Rect.unit (s := S1024x256) ![256 * j.val, 0] S256x256.size (row_fits j)
abbrev oRow (j : Fin 4) : Memref sig .tc .vmem S256x256 .f32 := oM.slice (rowR j) (fun _ => rfl)
/-- Slot `j` of the send buffer. -/
abbrev slotR (j : Fin 4) : Rect S4x256x256 := Rect.unit (s := S4x256x256) ![j.val, 0, 0] S1x256x256.size (slot_fits j)
abbrev sSlot (j : Fin 4) : Memref sig .tc .vmem S256x256 .f32 :=
  (sM.slice (slotR j) (fun _ => rfl)).squeeze S256x256 squeezes_S1x256x256_S256x256

/-- The runtime's barrier semaphore; the send and the receive semaphore of entry `j`. -/
abbrev barS : Sem sig := (SemArray.scalar (sig.barrier 0 rfl) : Sems sig S_).sem
abbrev sendQ (j : Fin 4) : DmaSem sig :=
  ((cc0_scratch1.slice (Rect.unit (s := S4) ![j.val] S1.size (sem_fits j))).squeeze S_ squeezes_S1_S_).sem
abbrev recvQ (j : Fin 4) : DmaSem sig :=
  ((cc0_scratch2.slice (Rect.unit (s := S4) ![j.val] S1.size (sem_fits j))).squeeze S_ squeezes_S1_S_).sem

abbrev barCell (c : Dev nD) : GSem nD τ sig := ((c : Thread nD τ), .reg barS)
abbrev sendCell (c : Dev nD) (j : Fin 4) : GSem nD τ sig := ((c : Thread nD τ), .dma (sendQ j))
abbrev recvCell (c : Dev nD) (j : Fin 4) : GSem nD τ sig := ((c : Thread nD τ), .dma (recvQ j))

theorem sendQ_val (j : Fin 4) : (sendQ j).val = 3 + j.val := by revert j; decide
theorem recvQ_val (j : Fin 4) : (recvQ j).val = 7 + j.val := by revert j; decide

/-- The entry a send or receive semaphore is of. -/
def entry (q : DmaSem sig) : Fin 4 := ⟨(q.val + 1) % 4, Nat.mod_lt _ (by decide)⟩
theorem entry_send (j : Fin 4) : entry (sendQ j) = j := by revert j; decide
theorem entry_recv (j : Fin 4) : entry (recvQ j) = j := by revert j; decide

/-- The kernel's own eight semaphores: the four of the send array, then the four of the receive array. -/
abbrev osem : Fin 8 → SemLoc sig := fun
  | 0 => .dma (sendQ 0) | 1 => .dma (sendQ 1) | 2 => .dma (sendQ 2) | 3 => .dma (sendQ 3)
  | 4 => .dma (recvQ 0) | 5 => .dma (recvQ 1) | 6 => .dma (recvQ 2) | 7 => .dma (recvQ 3)
/-- All nine of a device: the barrier, then its own eight. -/
abbrev csem : Fin 9 → SemLoc sig := fun
  | 0 => .reg barS
  | 1 => .dma (sendQ 0) | 2 => .dma (sendQ 1) | 3 => .dma (sendQ 2) | 4 => .dma (sendQ 3)
  | 5 => .dma (recvQ 0) | 6 => .dma (recvQ 1) | 7 => .dma (recvQ 2) | 8 => .dma (recvQ 3)
abbrev kcell (ck : Dev nD × Fin 9) : GSem nD τ sig := ((ck.1 : Thread nD τ), csem ck.2)

/-- Where among the nine the send and the receive cell `j` stand. -/
def sendIx (j : Fin 4) : Fin 9 := ⟨1 + j.val, by omega⟩
def recvIx (j : Fin 4) : Fin 9 := ⟨5 + j.val, by omega⟩
theorem csem_send (j : Fin 4) : csem (sendIx j) = .dma (sendQ j) := by revert j; decide
theorem csem_recv (j : Fin 4) : csem (recvIx j) = .dma (recvQ j) := by revert j; decide
theorem kcell_send (c : Dev nD) (j : Fin 4) : kcell (c, sendIx j) = sendCell c j := by
  unfold kcell sendCell; rw [csem_send]
theorem kcell_recv (c : Dev nD) (j : Fin 4) : kcell (c, recvIx j) = recvCell c j := by
  unfold kcell recvCell; rw [csem_recv]

/-- One block's credit on a DMA semaphore. -/
abbrev N : ℕ := (oRow 0).view.dmaCredit
theorem N_pos : 0 < N := View.dmaCredit_pos _ (by decide)

/-! ## Contents -/

/-- The staged `x` and `w` of device `c`: what the launch memory holds. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The whole of `x`, as the rectangle the kernel loads it through. -/
abbrev xAll : Rect S256x1024 := Rect.unit (s := S256x1024) ![0, 0] S256x1024.size inb_S256x1024_S256x1024_0_0
/-- Columns `256 j …` of the weights. -/
abbrev colR (j : Fin 4) : Rect S1024x1024 := Rect.unit (s := S1024x1024) ![0, 256 * j.val] S1024x256.size (col_fits j)

/-- What the kernel's loads of `x` and of columns `256 j` of `w` answer on device `c`. -/
def xval (c : Dev nD) : Vec F S256x1024 .f32 := (xM.access xAll).read (Elt F) (xstg m ρ c)
def wcol (c : Dev nD) (j : Fin 4) : Vec F S1024x256 .f32 := (wM.access (colR j)).read (Elt F) (wstg m ρ c)

/-- The block device `c` computes for device `j`: its `x` times columns `256 j` of its `w`, negative entries cut off. -/
def blk (c : Dev nD) (j : Fin 4) : FVec F S256x256 .f32 := k0_pay3 (xval m ρ c) (wcol m ρ c j)

/-- Place of a result's entry within its block of 256 rows. -/
def inBlk (i : S1024x256.Idx) : S256x256.Idx := fun
  | 0 => ⟨(i 0).val % 256, Nat.mod_lt _ (by decide)⟩
  | 1 => ⟨(i 1).val, (i 1).isLt⟩
/-- The block of 256 rows a result's entry lies in. -/
def rowBlk (i : S1024x256.Idx) : Fin 4 := ⟨(i 0).val / 256, Nat.div_lt_of_lt_mul (i 0).isLt⟩

/-- Device `c`'s result: rows `256 d` are the block device `d` computed for it. -/
def outAt (c : Dev nD) : (cc0_stg2_0 : Ref sig .tc).ty.Contents (Elt F) :=
  fun i => blk m ρ (rowBlk i) c (inBlk i)

theorem oRow_emb_val0 (j : Fin 4) (x : S256x256.Idx) : (((oRow j).view.emb x) 0).val = 256 * j.val + (x 0).val := by
  show (((rowR j).emb x) 0).val = _
  rw [Rect.emb_apply]; simp [rowR, Rect.unit]
theorem oRow_emb_val1 (j : Fin 4) (x : S256x256.Idx) : (((oRow j).view.emb x) 1).val = (x 1).val := by
  show (((rowR j).emb x) 1).val = _
  rw [Rect.emb_apply]; simp [rowR, Rect.unit]

/-- On rows `256 d` the result of `c` is the block of `d`. -/
theorem outAt_emb (c : Dev nD) (d : Fin 4) (x : S256x256.Idx) :
    outAt m ρ c ((oRow d).view.emb x) = blk m ρ d c x := by
  have h0 := oRow_emb_val0 d x
  have h1 := oRow_emb_val1 d x
  have hx : (x 0).val < 256 := (x 0).isLt
  have hr : rowBlk ((oRow d).view.emb x) = d := by
    apply Fin.ext; show (((oRow d).view.emb x) 0).val / 256 = d.val
    rw [h0]; omega
  have hi : inBlk ((oRow d).view.emb x) = x := by
    funext a
    apply Fin.ext
    match a with
    | 0 => show (((oRow d).view.emb x) 0).val % 256 = (x 0).val; rw [h0]; omega
    | 1 => exact h1
  show blk m ρ (rowBlk ((oRow d).view.emb x)) c (inBlk ((oRow d).view.emb x)) = _
  rw [hr, hi]

/-! ## Ownership of parts -/

/-- Rows `256 j` of device `c`'s result buffer, holding `f` there. -/
def rowPts (c : Dev nD) (j : Fin 4) (f : Buf (Elt F) ((c : Thread nD τ).loc cc0_stg2_0)) : sProp 𝕄 :=
  (oRow j).view.loc (c : Thread nD τ) ↦[(oRow j).view.set]{fullShare} f
/-- Slot `j` of device `c`'s send buffer, holding `f` there. -/
def slotPts (c : Dev nD) (j : Fin 4) (f : Buf (Elt F) ((c : Thread nD τ).loc cc0_scratch0)) : sProp 𝕄 :=
  (sSlot j).view.loc (c : Thread nD τ) ↦[(sSlot j).view.set]{fullShare} f

omit [FloatOps F] in
instance rowPts_storable (c : Dev nD) (j) (f) : BI.Storable (upEmb : UEmb _ 𝕄) (rowPts (F := F) c j f) := by
  unfold rowPts; infer_instance
omit [FloatOps F] in
instance slotPts_storable (c : Dev nD) (j) (f) : BI.Storable (upEmb : UEmb _ 𝕄) (slotPts (F := F) c j f) := by
  unfold slotPts; infer_instance

theorem row_set (j : Fin 4) : (oRow j).view.set = (rowR j).set := View.set_slice_whole _ _
theorem slot_set (j : Fin 4) : (sSlot j).view.set = (slotR j).set :=
  (View.set_reshape _ _).trans (View.set_slice_whole _ _)

/-- The entries of the result buffer that rows `256 j` hold, and those of the send buffer that slot `j` holds. -/
abbrev rowSet (j : Fin 4) : Finset S1024x256.Idx := (oRow j).view.set
abbrev slotSet (j : Fin 4) : Finset S4x256x256.Idx := (sSlot j).view.set

/-- Different blocks of rows share no entry, -/
theorem row_disjoint (j j' : Fin 4) (h : j ≠ j') : Disjoint (oRow j).view.set (oRow j').view.set := by
  rw [row_set, row_set]
  rw [Finset.disjoint_left]
  intro i hi hi'
  have h1 := (Rect.mem_set_unit.mp hi) 0
  have h2 := (Rect.mem_set_unit.mp hi') 0
  have e1 : 256 * j.val ≤ (i 0).val ∧ (i 0).val < 256 * j.val + 256 := h1
  have e2 : 256 * j'.val ≤ (i 0).val ∧ (i 0).val < 256 * j'.val + 256 := h2
  exact h (Fin.ext (by omega))
/-- and the four are the whole result. -/
theorem row_cover : (Finset.univ.biUnion fun j : Fin 4 => rowSet j) = Finset.univ := by
  ext i
  simp only [Finset.mem_biUnion, Finset.mem_univ, true_and, iff_true]
  refine ⟨rowBlk i, ?_⟩
  show i ∈ (oRow (rowBlk i)).view.set
  rw [row_set]
  refine Rect.mem_set_unit.mpr fun a => ?_
  match a with
  | 0 =>
    show 256 * ((i 0).val / 256) ≤ (i 0).val ∧ (i 0).val < 256 * ((i 0).val / 256) + 256
    omega
  | 1 => exact ⟨Nat.zero_le _, by show (i 1).val < 0 + 256; rw [Nat.zero_add]; exact (i 1).isLt⟩

/-- Different slots share no entry, -/
theorem slot_disjoint (j j' : Fin 4) (h : j ≠ j') : Disjoint (sSlot j).view.set (sSlot j').view.set := by
  rw [slot_set, slot_set]
  rw [Finset.disjoint_left]
  intro i hi hi'
  have h1 := (Rect.mem_set_unit.mp hi) 0
  have h2 := (Rect.mem_set_unit.mp hi') 0
  have e1 : j.val ≤ (i 0).val ∧ (i 0).val < j.val + 1 := h1
  have e2 : j'.val ≤ (i 0).val ∧ (i 0).val < j'.val + 1 := h2
  exact h (Fin.ext (by omega))
/-- and the four are the whole send buffer. -/
theorem slot_cover : (Finset.univ.biUnion fun j : Fin 4 => slotSet j) = Finset.univ := by
  ext i
  simp only [Finset.mem_biUnion, Finset.mem_univ, true_and, iff_true]
  refine ⟨⟨(i 0).val, (i 0).isLt⟩, ?_⟩
  show i ∈ (sSlot ⟨(i 0).val, (i 0).isLt⟩).view.set
  rw [slot_set]
  refine Rect.mem_set_unit.mpr fun a => ?_
  match a with
  | 0 => exact ⟨Nat.le_refl _, Nat.lt_succ_self _⟩
  | 1 => exact ⟨Nat.zero_le _, by show (i 1).val < 0 + 256; rw [Nat.zero_add]; exact (i 1).isLt⟩
  | 2 => exact ⟨Nat.zero_le _, by show (i 2).val < 0 + 256; rw [Nat.zero_add]; exact (i 2).isLt⟩

omit [FloatOps F] in
/-- The result buffer whole is its four blocks of rows. -/
theorem rows_eq (c : Dev nD) (f : Buf (Elt F) ((c : Thread nD τ).loc cc0_stg2_0)) :
    (((c : Thread nD τ).loc cc0_stg2_0) ↦{fullShare} f : sProp 𝕄) = bigSep Finset.univ fun j : Fin 4 => rowPts c j f := by
  have h := pointsTo_biUnion (ℓ := (c : Thread nD τ).loc cc0_stg2_0) (q := fullShare) (f := f) (Ix := Unit) (Name := ℕ) (U := UU) (Lvl := ℕ)
    Finset.univ (fun j : Fin 4 => rowSet j) (fun j _ j' _ hne => row_disjoint j j' hne)
  refine Eq.trans ?_ h
  rw [row_cover]
omit [FloatOps F] in
/-- The send buffer whole is its four slots, -/
theorem slots_eq (c : Dev nD) (f : Buf (Elt F) ((c : Thread nD τ).loc cc0_scratch0)) :
    (((c : Thread nD τ).loc cc0_scratch0) ↦{fullShare} f : sProp 𝕄) = bigSep Finset.univ fun j : Fin 4 => slotPts c j f := by
  have h := pointsTo_biUnion (ℓ := (c : Thread nD τ).loc cc0_scratch0) (q := fullShare) (f := f) (Ix := Unit) (Name := ℕ) (U := UU) (Lvl := ℕ)
    Finset.univ (fun j : Fin 4 => slotSet j) (fun j _ j' _ hne => slot_disjoint j j' hne)
  refine Eq.trans ?_ h
  rw [slot_cover]
omit [FloatOps F] in
/-- and four slots with contents of their own are the send buffer with some contents. -/
theorem slots_join (c : Dev nD) (f₀ : Buf (Elt F) ((c : Thread nD τ).loc cc0_scratch0)) :
    (bigSep Finset.univ fun j : Fin 4 => iprop(∃ f, slotPts c j f))
      ⊢ (iprop(∃ f, ((c : Thread nD τ).loc cc0_scratch0) ↦{fullShare} f) : sProp 𝕄) := by
  haveI : Nonempty (Buf (Elt F) ((c : Thread nD τ).loc cc0_scratch0)) := ⟨f₀⟩
  unfold slotPts
  refine (BI.bigSep_exists_pi Finset.univ (fun (j : Fin 4) (f : Buf (Elt F) ((c : Thread nD τ).loc cc0_scratch0)) =>
    (((c : Thread nD τ).loc cc0_scratch0) ↦[slotSet j]{fullShare} f : sProp 𝕄))).trans ?_
  iintro ⟨%fs, H⟩
  ihave H' := (pointsTo_biUnion_join (ℓ := (c : Thread nD τ).loc cc0_scratch0) (q := fullShare) (Ix := Unit) (Name := ℕ) (U := UU) (Lvl := ℕ)
    Finset.univ (fun j : Fin 4 => slotSet j) fs f₀ (fun j _ j' _ hne => slot_disjoint j j' hne)) $$ H
  icases H' with ⟨%g, -, H⟩
  iexists g
  rw [slot_cover]
  iexact H

/-! ## The schedule -/

/-- What peer `d`'s signal hands device `c`: rows `256 c` of `d`'s result buffer, with any contents. -/
def barPay (c d : Dev nD) : sProp 𝕄 := iprop(∃ f, rowPts d c f)
/-- What a filled receive cell `j` hands device `c`: rows `256 j` of its result. -/
def recvPay (c : Dev nD) (j : Fin 4) : sProp 𝕄 := rowPts c j (outAt m ρ c)
/-- What a filled send cell `j` hands back: slot `j` of the send buffer. -/
def sendPay (c : Dev nD) (j : Fin 4) : sProp 𝕄 := iprop(∃ f, slotPts c j f)

/-- Whether device `d` has a duty on the cell `g`: on the barrier cell of another device, on the receive cell named by
    `d` of another device, on a send cell of its own for another device. -/
abbrev Owes (g : GSem nD τ sig) (d : Dev nD) : Prop :=
  g.1.2 = .tc ∧ ((g.2 = .reg barS ∧ d ≠ g.1.1) ∨ (g.2 = .dma (recvQ d) ∧ d ≠ g.1.1)
    ∨ (d = g.1.1 ∧ ∃ j : Fin 4, j ≠ g.1.1 ∧ g.2 = .dma (sendQ j)))

/-- The entry a cell is of; of the barrier's cell the first. -/
def slotOf (sm : SemLoc sig) : Fin 4 := match sm with
  | .dma q => entry q
  | .reg _ => 0

theorem slot_recv (j : Fin 4) : (SemLoc.dma (recvQ j) : SemLoc sig) = .dma (recvQ (slotOf (.dma (recvQ j)))) := by
  show _ = SemLoc.dma (recvQ (entry (recvQ j)))
  rw [entry_recv]

/-- One round, round 0. -/
def Rd : Rounds.Schedule (GSem nD τ sig) (Dev nD) 𝕄 where
  duties g r := if r = 0 then Finset.univ.filter (Owes g) else ∅
  unitless _ := False
  amount g _ _ := if g.2 = .reg barS then 1 else N
  payload g _ d :=
    if g.2 = .reg barS then barPay g.1.1 d
    else if g.2 = .dma (recvQ (slotOf g.2)) then recvPay m ρ g.1.1 (slotOf g.2)
    else sendPay g.1.1 (slotOf g.2)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m ρ).payload g r d) := by
  show BI.Storable upEmb (if g.2 = .reg barS then barPay g.1.1 d
    else if g.2 = .dma (recvQ (slotOf g.2)) then recvPay m ρ g.1.1 (slotOf g.2) else sendPay g.1.1 (slotOf g.2))
  unfold barPay recvPay sendPay
  (repeat' split) <;> infer_instance

theorem dma_ne_bar (q : DmaSem sig) : (SemLoc.dma q : SemLoc sig) ≠ .reg barS := fun h => by cases h
theorem send_ne_recv (j j' : Fin 4) : (SemLoc.dma (sendQ j) : SemLoc sig) ≠ .dma (recvQ j') := by
  revert j j'; decide
theorem recv_inj {j j' : Fin 4} (h : (SemLoc.dma (recvQ j) : SemLoc sig) = .dma (recvQ j')) : j = j' := by
  revert j j'; decide
theorem send_inj {j j' : Fin 4} (h : (SemLoc.dma (sendQ j) : SemLoc sig) = .dma (sendQ j')) : j = j' := by
  revert j j'; decide

section Sched
variable (c : Dev nD) (j : Fin 4)

/-- The duties of a barrier cell are the peers'; -/
theorem duties_bar : (Rd (F := F) m ρ).duties (barCell c) 0 = Finset.univ.erase c := by
  dsimp only [Rd]; rw [if_pos rfl]
  ext d
  simp only [Finset.mem_filter, Finset.mem_univ, true_and, Finset.mem_erase, and_true]
  refine ⟨fun h => ?_, fun h => ⟨rfl, .inl ⟨rfl, h⟩⟩⟩
  rcases h.2 with h | h | ⟨-, j, -, h⟩
  · exact h.2
  · exact h.2
  · exact absurd h.symm (dma_ne_bar _)
/-- of receive cell `j` of another device than `j`, the one of `j`; -/
theorem duties_recv (hj : j ≠ c) : (Rd (F := F) m ρ).duties (recvCell c j) 0 = {j} := by
  dsimp only [Rd]; rw [if_pos rfl]
  ext d
  simp only [Finset.mem_filter, Finset.mem_univ, true_and, Finset.mem_singleton]
  refine ⟨fun h => ?_, fun h => by subst h; exact ⟨rfl, .inr (.inl ⟨rfl, hj⟩)⟩⟩
  rcases h.2 with h | h | ⟨-, j', -, h⟩
  · exact absurd h.1 (dma_ne_bar _)
  · exact (recv_inj h.1).symm
  · exact absurd h.symm (send_ne_recv _ _)
/-- of send cell `j` of another device than `j`, its own; -/
theorem duties_send (hj : j ≠ c) : (Rd (F := F) m ρ).duties (sendCell c j) 0 = {c} := by
  dsimp only [Rd]; rw [if_pos rfl]
  ext d
  simp only [Finset.mem_filter, Finset.mem_univ, true_and, Finset.mem_singleton]
  refine ⟨fun h => ?_, fun h => ⟨rfl, .inr (.inr ⟨h, j, hj, rfl⟩)⟩⟩
  rcases h.2 with h | h | ⟨h, -⟩
  · exact absurd h.1 (dma_ne_bar _)
  · exact absurd h.1 (send_ne_recv _ _)
  · exact h
/-- the receive and the send cell a device has for itself have none; -/
theorem duties_recv_self : (Rd (F := F) m ρ).duties (recvCell c c) 0 = ∅ := by
  dsimp only [Rd]; rw [if_pos rfl]
  refine Finset.filter_eq_empty_iff.mpr fun d _ h => ?_
  rcases h.2 with h | h | ⟨-, j', -, h⟩
  · exact absurd h.1 (dma_ne_bar _)
  · exact h.2 (recv_inj h.1).symm
  · exact absurd h.symm (send_ne_recv _ _)
theorem duties_send_self : (Rd (F := F) m ρ).duties (sendCell c c) 0 = ∅ := by
  dsimp only [Rd]; rw [if_pos rfl]
  refine Finset.filter_eq_empty_iff.mpr fun d _ h => ?_
  rcases h.2 with h | h | ⟨-, j', hj', h⟩
  · exact absurd h.1 (dma_ne_bar _)
  · exact absurd h.1 (send_ne_recv _ _)
  · exact hj' (send_inj h).symm
/-- and later rounds have none. -/
theorem duties_later (g : GSem nD τ sig) : ∀ r, 1 ≤ r → (Rd (F := F) m ρ).duties g r = ∅ :=
  fun r hr => by dsimp only [Rd]; rw [if_neg (by omega)]

theorem amount_bar (d : Dev nD) : (Rd (F := F) m ρ).amount (barCell c) 0 d = 1 := by dsimp only [Rd]; exact if_pos rfl
theorem amount_dma (q : DmaSem sig) (d : Dev nD) : (Rd (F := F) m ρ).amount ((c : Thread nD τ), .dma q) 0 d = N := by
  dsimp only [Rd]; exact if_neg (dma_ne_bar q)

/-- A barrier cell awaits three units, -/
theorem expect_bar : (Rd (F := F) m ρ).expect (barCell c) 0 = 3 := by
  unfold Schedule.expect Schedule.amountOf
  rw [duties_bar, Finset.sum_congr rfl fun d _ => amount_bar m ρ c d, Finset.sum_const, Finset.card_erase_of_mem (Finset.mem_univ _), Finset.card_univ,
    Fintype.card_fin, smul_eq_mul]
  rfl
/-- a send or receive cell for a peer one block's credit. -/
theorem expect_send (hj : j ≠ c) : (Rd (F := F) m ρ).expect (sendCell c j) 0 = N := by
  unfold Schedule.expect Schedule.amountOf; rw [duties_send m ρ c j hj, Finset.sum_singleton, amount_dma]
theorem expect_recv (hj : j ≠ c) : (Rd (F := F) m ρ).expect (recvCell c j) 0 = N := by
  unfold Schedule.expect Schedule.amountOf; rw [duties_recv m ρ c j hj, Finset.sum_singleton, amount_dma]

theorem payload_bar (d : Dev nD) : (Rd (F := F) m ρ).payload (barCell c) 0 d = barPay c d := by dsimp only [Rd]; rw [if_pos rfl]
theorem payload_recv (d : Dev nD) : (Rd (F := F) m ρ).payload (recvCell c j) 0 d = recvPay m ρ c j := by
  have h : (if (recvCell c j).2 = .reg barS then barPay (F := F) c d
      else if (recvCell c j).2 = .dma (recvQ (slotOf (recvCell c j).2)) then recvPay m ρ c (slotOf (recvCell c j).2)
      else sendPay c (slotOf (recvCell c j).2)) = recvPay m ρ c (slotOf (recvCell c j).2) :=
    (if_neg (dma_ne_bar _)).trans (if_pos (slot_recv j))
  exact h.trans (congrArg (recvPay m ρ c) (entry_recv j))
theorem payload_send (d : Dev nD) : (Rd (F := F) m ρ).payload (sendCell c j) 0 d = sendPay c j := by
  have h : (if (sendCell c j).2 = .reg barS then barPay (F := F) c d
      else if (sendCell c j).2 = .dma (recvQ (slotOf (sendCell c j).2)) then recvPay m ρ c (slotOf (sendCell c j).2)
      else sendPay c (slotOf (sendCell c j).2)) = sendPay c (slotOf (sendCell c j).2) :=
    (if_neg (dma_ne_bar _)).trans (if_neg (send_ne_recv j _))
  exact h.trans (congrArg (sendPay c) (entry_send j))

/-- What the round of a cell hands over when nothing of it was taken. -/
theorem rest_bar : bigSep ((Rd (F := F) m ρ).duties (barCell c) 0 \ ∅) (fun d => (Rd (F := F) m ρ).payload (barCell c) 0 d)
    = bigSep (Finset.univ.erase c) fun d => barPay c d := by
  rw [Finset.sdiff_empty, duties_bar]; exact bigSep_congr fun d _ => payload_bar m ρ c d
theorem rest_send (hj : j ≠ c) : bigSep ((Rd (F := F) m ρ).duties (sendCell c j) 0 \ ∅) (fun d => (Rd (F := F) m ρ).payload (sendCell c j) 0 d)
    = sendPay c j := by
  rw [Finset.sdiff_empty, duties_send m ρ c j hj, bigSep_singleton, payload_send]
theorem rest_recv (hj : j ≠ c) : bigSep ((Rd (F := F) m ρ).duties (recvCell c j) 0 \ ∅) (fun d => (Rd (F := F) m ρ).payload (recvCell c j) 0 d)
    = recvPay m ρ c j := by
  rw [Finset.sdiff_empty, duties_recv m ρ c j hj, bigSep_singleton, payload_recv]

end Sched

/-! ## What each device owes at launch; the levels -/

/-- What device `c` owes device `j` by its signal, and by its copy: nothing to itself. -/
def barDue (c j : Dev nD) : CellTallies nD τ sig Unit := if j = c then 0 else tallyAt (barCell j) () 1
def rcvDue (c j : Dev nD) : CellTallies nD τ sig Unit := if j = c then 0 else tallyAt (recvCell j c) () N

/-- What remains owed after the barrier wait and each block; summed so that each step takes the last summand off. -/
def R3 (c : Dev nD) : CellTallies nD τ sig Unit := 0 + rcvDue c 3
def R2 (c : Dev nD) : CellTallies nD τ sig Unit := R3 c + rcvDue c 2
def R1 (c : Dev nD) : CellTallies nD τ sig Unit := R2 c + rcvDue c 1
def R0 (c : Dev nD) : CellTallies nD τ sig Unit := R1 c + rcvDue c 0
/-- What is owed before each signal; `O₀`, the first, is what is owed at launch. -/
def B3 (c : Dev nD) : CellTallies nD τ sig Unit := R0 c + barDue c 3
def B2 (c : Dev nD) : CellTallies nD τ sig Unit := B3 c + barDue c 2
def B1 (c : Dev nD) : CellTallies nD τ sig Unit := B2 c + barDue c 1
def O₀ (c : Dev nD) : CellTallies nD τ sig Unit := B1 c + barDue c 0

def L (g : GSem nD τ sig) : Finset Unit := if g.1.2 = .tc then {()} else ∅
/-- Barrier cells at level 1, receive cells at 2, all others (staging, send) at 0. -/
def lv (g : GSem nD τ sig) (_ : Unit) : ℕ := if g.2 = .reg barS then 1 else if g.2 = .dma (recvQ (slotOf g.2)) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 4) (u : Unit) : lv (recvCell c j) u = 2 := by
  exact (if_neg (dma_ne_bar _)).trans (if_pos (slot_recv j))

theorem barDue_apply (c j : Dev nD) (g : GSem nD τ sig) (u : Unit) : barDue c j g u = if j ≠ c ∧ g = barCell j then 1 else 0 := by
  unfold barDue
  by_cases h : j = c
  · rw [if_pos h, if_neg (fun h' => h'.1 h)]; rfl
  · rw [if_neg h, tallyAt_apply]
    by_cases hg : g = barCell j
    · rw [if_pos ⟨hg, rfl⟩, if_pos ⟨h, hg⟩]
    · rw [if_neg (fun h' => hg h'.1), if_neg (fun h' => hg h'.2)]
theorem rcvDue_apply (c j : Dev nD) (g : GSem nD τ sig) (u : Unit) : rcvDue c j g u = if j ≠ c ∧ g = recvCell j c then N else 0 := by
  unfold rcvDue
  by_cases h : j = c
  · rw [if_pos h, if_neg (fun h' => h'.1 h)]; rfl
  · rw [if_neg h, tallyAt_apply]
    by_cases hg : g = recvCell j c
    · rw [if_pos ⟨hg, rfl⟩, if_pos ⟨h, hg⟩]
    · rw [if_neg (fun h' => hg h'.1), if_neg (fun h' => hg h'.2)]

/-- Device `c` owes the four receive dues after the barrier, -/
theorem R0_apply (c : Dev nD) (g : GSem nD τ sig) (u : Unit) :
    R0 c g u = rcvDue c 3 g u + rcvDue c 2 g u + rcvDue c 1 g u + rcvDue c 0 g u := by
  simp only [R0, R1, R2, R3, Pi.add_apply, Finsupp.add_apply, zero_add]
/-- and the four barrier dues besides at launch. -/
theorem O₀_apply (c : Dev nD) (g : GSem nD τ sig) (u : Unit) :
    O₀ c g u = R0 c g u + barDue c 3 g u + barDue c 2 g u + barDue c 1 g u + barDue c 0 g u := by
  simp only [O₀, B1, B2, B3, Pi.add_apply, Finsupp.add_apply]

theorem due_pos_bar {c j : Dev nD} {g : GSem nD τ sig} {u : Unit} (h : barDue c j g u ≠ 0) : ∃ d, g = barCell d := by
  rw [barDue_apply] at h
  by_contra hn
  exact h (if_neg fun h' => hn ⟨j, h'.2⟩)
theorem due_pos_recv {c j : Dev nD} {g : GSem nD τ sig} {u : Unit} (h : rcvDue c j g u ≠ 0) : ∃ d, g = recvCell d c := by
  rw [rcvDue_apply] at h
  by_contra hn
  exact h (if_neg fun h' => hn ⟨j, h'.2⟩)
/-- After the barrier only receive cells are owed anything, -/
theorem R0_pos {c : Dev nD} {g : GSem nD τ sig} {u : Unit} (h : 0 < R0 c g u) : ∃ d, g = recvCell d c := by
  by_contra hn
  have hz (j : Dev nD) : rcvDue c j g u = 0 := by
    by_contra h'; exact hn (due_pos_recv h')
  rw [R0_apply, hz, hz, hz, hz] at h
  exact Nat.lt_irrefl 0 h
/-- at launch barrier cells and receive cells. -/
theorem O₀_pos {c : Dev nD} {g : GSem nD τ sig} {u : Unit} (h : 0 < O₀ c g u) : (∃ d, g = barCell d) ∨ ∃ d, g = recvCell d c := by
  by_contra hn
  rw [not_or] at hn
  have hb (j : Dev nD) : barDue c j g u = 0 := by
    by_contra h'; exact hn.1 (due_pos_bar h')
  have hr : R0 c g u = 0 := by
    by_contra h'; exact hn.2 (R0_pos (Nat.pos_of_ne_zero h'))
  rw [O₀_apply, hr, hb, hb, hb, hb] at h
  exact Nat.lt_irrefl 0 h

/-- A wait on a DMA semaphore at level 0 may be made at launch, or owing nothing. -/
theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact hq.le) (fun g u hg => ?_)
    · rcases O₀_pos hg with ⟨d, rfl⟩ | ⟨d, rfl⟩ <;> exact Finset.mem_singleton_self _
    · rcases O₀_pos hg with ⟨d, rfl⟩ | ⟨d, rfl⟩
      · rw [lv_bar]; decide
      · rw [lv_recv]; decide
  · rw [MayWait_zero]; iintro -; iempintro

/-- At its barrier wait a device owes receive cells only, which are above. -/
theorem mayWait_bar (c : Dev nD) : (levAts L lv : sProp 𝕄) ⊢ MayWait (c : Thread nD τ) (.reg barS) () (R0 c) :=
  MayOwe.of_cut (L := L) (lev := lv) 1 (fun p hp => by rw [Finset.mem_singleton.mp hp, L_tc]; exact Finset.mem_singleton_self _)
    (fun g u hg => by obtain ⟨d, rfl⟩ := R0_pos hg; exact Finset.mem_singleton_self _)
    (fun p hp => by rw [Finset.mem_singleton.mp hp, lv_bar])
    (fun g u hg => by obtain ⟨d, rfl⟩ := R0_pos hg; rw [lv_recv]; decide)

/-! ## What device `c`'s body starts from and ends with -/

/-- The invariants of all cells, under the names `K` the launch allocated them at, and that round 0 of each is reached. -/
def records (K : Dev nD × Fin 9 → ℕ) : sProp 𝕄 :=
  iprop((bigSep Finset.univ fun ck : Dev nD × Fin 9 => cellInv ER (Rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem records_bar (K : Dev nD × Fin 9 → ℕ) (c : Dev nD) :
    records m ρ K ⊢ (iprop(cellInv ER (Rd m ρ) (K (c, 0)) (barCell c) ∗ reached ER (barCell c) 0) : sProp 𝕄) := by
  unfold records
  exact BI.sep_mono (bigSep_elim (Finset.mem_univ ((c, 0) : Dev nD × Fin 9))) (bigSep_elim (Finset.mem_univ ((c, 0) : Dev nD × Fin 9)))
theorem records_send (K : Dev nD × Fin 9 → ℕ) (c : Dev nD) (j : Fin 4) :
    records m ρ K ⊢ (iprop(cellInv ER (Rd m ρ) (K (c, sendIx j)) (sendCell c j) ∗ reached ER (sendCell c j) 0) : sProp 𝕄) := by
  unfold records
  rw [← kcell_send]
  exact BI.sep_mono (bigSep_elim (Finset.mem_univ ((c, sendIx j) : Dev nD × Fin 9))) (bigSep_elim (Finset.mem_univ ((c, sendIx j) : Dev nD × Fin 9)))
theorem records_recv (K : Dev nD × Fin 9 → ℕ) (c : Dev nD) (j : Fin 4) :
    records m ρ K ⊢ (iprop(cellInv ER (Rd m ρ) (K (c, recvIx j)) (recvCell c j) ∗ reached ER (recvCell c j) 0) : sProp 𝕄) := by
  unfold records
  rw [← kcell_recv]
  exact BI.sep_mono (bigSep_elim (Finset.mem_univ ((c, recvIx j) : Dev nD × Fin 9))) (bigSep_elim (Finset.mem_univ ((c, recvIx j) : Dev nD × Fin 9)))

/-- Per peer `j`: the three duty tokens device `c` pays with, -/
def payTok (c j : Dev nD) : sProp 𝕄 :=
  iprop(dutyTok ER (barCell j) 0 c ∗ dutyTok ER (sendCell c j) 0 c ∗ dutyTok ER (recvCell j c) 0 c)
/-- and its positions at its own send and receive cell `j`. -/
def posAt (c : Dev nD) (j : Fin 4) : sProp 𝕄 := iprop(atPos ER (sendCell c j) 0 ∅ 0 ∗ atPos ER (recvCell c j) 0 ∅ 0)
/-- The credit its wait on receive cell `j` spends. -/
def rcvCred (c : Dev nD) (j : Fin 4) : sProp 𝕄 := if j = c then iprop(emp) else cred (tallyAt (recvCell c j) () N)

/-- The ghost state device `c` starts from. -/
def ghost (K : Dev nD × Fin 9 → ℕ) (c : Dev nD) : sProp 𝕄 :=
  iprop(records m ρ K ∗ atPos ER (barCell c) 0 ∅ 0 ∗ (bigSep Finset.univ fun j : Fin 4 => posAt c j) ∗ bigSep Finset.univ fun j : Fin 4 => payTok c j)

/-- What device `c`'s body starts from: that, at some names; the credit of its waits on the barrier and the receive cells;
    the levels. -/
def start (c : Dev nD) : sProp 𝕄 :=
  iprop((∃ K, ghost m ρ K c) ∗ cred (tallyAt (barCell c) () 3) ∗ (bigSep Finset.univ fun j : Fin 4 => rcvCred c j) ∗ levAts L lv)

def Φ₀ (c : Dev nD) : sProp 𝕄 := iprop(start m ρ c ∗ ∃ f, ((c : Thread nD τ).loc cc0_scratch0) ↦{fullShare} f)
/-- After the body: the send buffer, and the counters of all nine cells at zero. -/
def Φ₁ (c : Dev nD) : sProp 𝕄 :=
  iprop((∃ f, ((c : Thread nD τ).loc cc0_scratch0) ↦{fullShare} f) ∗ (bigSep Finset.univ fun j : Fin 4 => iprop(semVal (sendCell c j) 0 ∗ semVal (recvCell c j) 0))
    ∗ semVal (barCell c) 0)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdeal.A2A

end
-- ==== Proof.IdealSteps.lean ====
/-
# The steps of the kernel's body, each proved once for all devices and blocks

The body does everything four times, once per device `j`, under the condition that `j` is, or is not, the device itself.
Each theorem here is about one such piece at a symbolic device `c` and a symbolic `j`; the offsets and conditions the
program computes are parameters with an equation or an equivalence that says what they are.
-/
module

public import proofs.«01_k».proof.Proof.IdealProtocol
public import Idealize.ShloMosaic.Lib.Pipeline.Value

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Fin 9 → ℕ)

/-- The weakest precondition of a piece of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on so far. -/
def owesE (c : Dev nD) (O : CellTallies nD τ sig Unit) : sProp 𝕄 := iprop(∃ W, owes (c : Thread nD τ) O W)

/-- What of its result's rows device `c` still has after the signals: its own block. -/
def kept (c j : Dev nD) : sProp 𝕄 := if j = c then iprop(∃ f, rowPts c c f) else iprop(emp)

theorem kept_self (c : Dev nD) : (kept c c : sProp 𝕄) = iprop(∃ f, rowPts c c f) := by unfold kept; exact if_pos rfl

/-- A piece and what follows it. -/
theorem bind_step (c : Dev nD) {α β : Type} (p : Prog (TpuEff nD τ sig (Elt F) Λ₀ .tc) β) (k : β → Prog (TpuEff nD τ sig (Elt F) Λ₀ .tc) α)
    (Kt : α → sProp 𝕄) : (wpc c p (fun b => wpc c (k b) Kt) : sProp 𝕄) ⊢ wpc c (p >>= k) Kt :=
  Entails.of_eq (wp_bind _ _ _ p k Kt).symm

/-- A device asks for its own number. -/
theorem dev_step (c : Dev nD) {α : Type} (k : Dev nD → Prog (TpuEff nD τ sig (Elt F) Λ₀ .tc) α) (Kt : α → sProp 𝕄) :
    (wpc c (k c) Kt : sProp 𝕄) ⊢ wpc c (Prog.lift .deviceId >>= k) Kt := by
  simp only [Prog.lift, Prog.bind_op, Prog.bind_ret, wp_deviceId]
  exact Entails.refl _

/-- The `j`-th signal: device `c` hands rows `256 j` of its result to device `j`, unless `j` is itself. -/
theorem sig_step (c j : Dev nD) {P : Prop} [Decidable P] (hP : P ↔ j ≠ c) (n : P → Dev nD) (hn : ∀ h, n h = j)
    (O : CellTallies nD τ sig Unit) {α : Type} (k : Prog (TpuEff nD τ sig (Elt F) Λ₀ .tc) α) (Kt : α → sProp 𝕄) :
    iprop(records m ρ K ∗ owesE c (O + barDue c j) ∗ dutyTok ER (barCell j) 0 c ∗ (∃ f, rowPts c j f))
      ⊢ iprop(((owesE c O ∗ kept c j) -∗ wpc c k Kt)
        -∗ wpc c (if h : P then (do semSignalWord (n h) barS 1#32; k) else k) Kt) := by
  unfold owesE kept
  by_cases hj : j = c
  · rw [dif_neg (fun h => hP.mp h hj), if_pos hj]
    unfold barDue; rw [if_pos hj, add_zero]
    subst hj
    iintro ⟨-, HO, -, Hr⟩ Hk
    iapply Hk
    isplitl [HO] <;> iassumption
  · have h : P := hP.mpr hj
    rw [dif_pos h, if_neg hj, hn h]
    simp only [semSignalWord, Prog.lift, Prog.bind_op, Prog.bind_ret]
    unfold barDue; rw [if_neg hj]
    iintro ⟨#HR, ⟨%W, HO⟩, Ht, Hr⟩ Hk
    ihave HB := (records_bar m ρ K j) $$ HR
    icases HB with ⟨HI, Hre⟩
    iapply (Rounds.wp_signal 𝒱₀ ER (Rd m ρ) (c : Thread nD τ) none (dst := (j : Thread nD τ)) (κ := K (j, 0))
      (d := c) (by rw [duties_bar]; exact Finset.mem_erase.mpr ⟨Ne.symm hj, Finset.mem_univ _⟩) ((amount_bar m ρ j c).trans (by decide)) () O rfl)
      $$ [HI Hre HO Ht Hr]
    · isplitl [HI]; · iexact HI
      isplitl [HO]; · iexact HO
      isplitl [Ht]; · iexact Ht
      isplitl [Hr]; · rw [payload_bar]; unfold barPay; iexact Hr
      iexact Hre
    iintro HO
    iapply Hk
    isplitl [HO]
    · iexists W; iexact HO
    · iempintro

/-- The barrier wait: every peer's signal hands over rows `256 c` of its result; with its own device `c` then has its
    rows on all four devices. -/
theorem bar_step (c : Dev nD) {α : Type} (k : Prog (TpuEff nD τ sig (Elt F) Λ₀ .tc) α) (Kt : α → sProp 𝕄) :
    iprop(records m ρ K ∗ levAts L lv ∗ owesE c (R0 c) ∗ cred (tallyAt (barCell c) () 3) ∗ atPos ER (barCell c) 0 ∅ 0
        ∗ bigSep Finset.univ fun j : Fin 4 => kept c j)
      ⊢ iprop(((owesE c (R0 c) ∗ semVal (barCell c) 0 ∗ bigSep Finset.univ fun j : Fin 4 => iprop(∃ f, rowPts j c f)) -∗ wpc c k Kt)
        -∗ wpc c (semWaitWord barS 3#32 >>= fun _ => k) Kt) := by
  simp only [semWaitWord, Prog.lift, Prog.bind_op, Prog.bind_ret]
  unfold owesE
  iintro ⟨#HR, #Hlev, ⟨%W, HO⟩, Hc, Ha, Hkept⟩ Hk
  ihave HB := (records_bar m ρ K c) $$ HR
  icases HB with ⟨#HI, -⟩
  iapply (Rounds.wp_wait_rest_token 𝒱₀ ER (Rd m ρ) (c : Thread nD τ) none (κ := K (c, 0))
      (wpE_semWait_eq 𝒱₀ (c : Thread nD τ) none Set.univ) (Set.mem_univ _) () (O := R0 c) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar (F := F) c); iexact Hlev
    iexact Ha
  iintro ⟨HO, Ha, -, Hpay⟩
  ihave Hp := (Entails.of_eq (rest_bar m ρ c)) $$ Hpay
  imod (Rounds.cell_close ER (Rd m ρ) (Set.mem_univ (K (c, 0))) (fun h => h) (R := 0 + 1) (duties_later m ρ (barCell c))) $$ [Ha] with Hz
  · isplitr; · iexact HI
    iexact Ha
  iapply Hk
  isplitl [HO]; · iexists _; iexact HO
  isplitl [Hz]; · iexact Hz
  ihave Hown := (show (bigSep Finset.univ fun j : Fin 4 => (kept c j : sProp 𝕄)) ⊢ iprop(∃ f, rowPts c c f)
    from (bigSep_elim (Finset.mem_univ c)).trans (Entails.of_eq (kept_self c))) $$ Hkept
  iapply (show iprop((∃ f, rowPts (F := F) c c f) ∗ bigSep (Finset.univ.erase c) fun d : Dev nD => barPay (F := F) c d)
      ⊢ (bigSep Finset.univ fun j : Fin 4 => iprop(∃ f, rowPts j c f) : sProp 𝕄)
    from Entails.of_eq (bigSep_erase (Finset.mem_univ c) (Φ := fun j : Fin 4 => iprop(∃ f, rowPts (F := F) j c f))).symm)
  isplitl [Hown] <;> iassumption

/-- A load of all of `x`. -/
theorem load_x (c : Dev nD) {hl : (xM : Memref sig .tc .vmem S256x1024 .f32).view.LoadsAt xAll.toLoadRect} {α : Type} (k : Vec F S256x1024 .f32 → Prog (TpuEff nD τ sig (Elt F) Λ₀ .tc) α) (Kt : α → sProp 𝕄) :
    (((c : Thread nD τ).loc cc0_stg0_0) ↦{fullShare} xstg m ρ c : sProp 𝕄)
      ⊢ iprop(((((c : Thread nD τ).loc cc0_stg0_0) ↦{fullShare} xstg m ρ c) -∗ wpc c (k (xval m ρ c)) Kt)
        -∗ wpc c (Prog.lift (.load xM xAll.toLoadRect hl) >>= k) Kt) := by
  simp only [Prog.lift, Prog.bind_op, Prog.bind_ret]
  unfold xval
  iintro Hx Hk
  iapply (wp_load_rect 𝒱₀ (c : Thread nD τ) none Set.univ (m := xM) (r := xAll) (Finset.subset_univ _)) $$ Hx
  iintro Hx
  iapply Hk; iexact Hx

/-- A load of columns `256 j` of `w`. -/
theorem load_w (c : Dev nD) (j : Fin 4) {o : Fin 2 → ℕ} (ho : o = ![0, 256 * j.val]) {inb : ∀ a, o a + S1024x256.size a ≤ S1024x1024.size a}
    {hl : (wM : Memref sig .tc .vmem S1024x1024 .f32).view.LoadsAt (Rect.unit (s := S1024x1024) o S1024x256.size inb).toLoadRect}
    {α : Type} (k : Vec F S1024x256 .f32 → Prog (TpuEff nD τ sig (Elt F) Λ₀ .tc) α) (Kt : α → sProp 𝕄) :
    (((c : Thread nD τ).loc cc0_stg1_0) ↦{fullShare} wstg m ρ c : sProp 𝕄)
      ⊢ iprop(((((c : Thread nD τ).loc cc0_stg1_0) ↦{fullShare} wstg m ρ c) -∗ wpc c (k (wcol m ρ c j)) Kt)
        -∗ wpc c (Prog.lift (.load wM (Rect.unit (s := S1024x1024) o S1024x256.size inb).toLoadRect hl) >>= k) Kt) := by
  subst ho
  simp only [Prog.lift, Prog.bind_op, Prog.bind_ret]
  unfold wcol
  iintro Hw Hk
  iapply (wp_load_rect 𝒱₀ (c : Thread nD τ) none Set.univ (m := wM) (r := colR j) (Finset.subset_univ _)) $$ Hw
  iintro Hw
  iapply Hk; iexact Hw

/-- Writing the block of `d` for `c` over rows `256 d` makes those rows the result's. -/
theorem rowPts_write (c : Dev nD) (d : Fin 4) (f : Buf (Elt F) ((c : Thread nD τ).loc cc0_stg2_0)) :
    rowPts c d ((oRow d).view.write (Elt F) f (blk m ρ d c) Finset.univ) = (rowPts c d (outAt m ρ c) : sProp 𝕄) := by
  unfold rowPts
  refine pointsTo_congr fun i hi => ?_
  obtain ⟨x, -, rfl⟩ := Finset.mem_map.mp hi
  rw [View.write_emb_of_mem _ _ (Finset.mem_univ x)]
  exact (outAt_emb m ρ c d x).symm

/-- What device `c` has of its rows on device `j` after the `j`-th own store: its block stored if `j` is itself. -/
def stored (c j : Dev nD) : sProp 𝕄 := if j = c then rowPts c c (outAt m ρ c) else iprop(∃ f, rowPts j c f)

/-- The `j`-th own store: into its own rows if `j` is itself. -/
theorem own_step (c j : Dev nD) {P : Prop} [Decidable P] (hP : P ↔ j = c) {o : Fin 2 → ℕ} (ho : o = ![256 * j.val, 0])
    {inb : ∀ a, o a + S256x256.size a ≤ S1024x256.size a} {v : FVec F S256x256 .f32} (hv : v = blk m ρ c j)
    {hl : (oM : Memref sig .tc .vmem S1024x256 .f32).view.LoadsAt (Rect.unit (s := S1024x256) o S256x256.size inb).toLoadRect}
    {hx : ((oM : Memref sig .tc .vmem S1024x256 .f32).access (Rect.unit (s := S1024x256) o S256x256.size inb)).Stores Finset.univ}
    {hm : (Finset.univ : Finset (Rect.unit (s := S1024x256) o S256x256.size inb).shape.Idx) = Finset.univ ∨ ∀ a, (Rect.unit (s := S1024x256) o S256x256.size inb).stride a = 1}
    {α : Type} (k : Prog (TpuEff nD τ sig (Elt F) Λ₀ .tc) α) (Kt : α → sProp 𝕄) :
    (iprop(∃ f, rowPts j c f) : sProp 𝕄)
      ⊢ iprop((stored m ρ c j -∗ wpc c k Kt)
        -∗ wpc c (if h : P then (do
            let _v : Vec F S256x256 .f32 ← Prog.lift (.load oM (Rect.unit (s := S1024x256) o S256x256.size inb).toLoadRect hl)
            Prog.lift (.store oM (Rect.unit (s := S1024x256) o S256x256.size inb) v Finset.univ hx hm)
            k) else k) Kt) := by
  subst ho; subst hv
  unfold stored
  by_cases hj : j = c
  · subst hj
    rw [dif_pos (hP.mpr rfl), if_pos rfl]
    simp only [Prog.lift, Prog.bind_op, Prog.bind_ret]
    iintro ⟨%f, Hr⟩ Hk
    unfold rowPts
    iapply (wp_load_rect 𝒱₀ (j : Thread nD τ) none Set.univ (m := oM) (r := rowR j) (S := (oRow j).view.set) (Finset.Subset.refl _)) $$ Hr
    iintro Hr
    iapply (wp_store 𝒱₀ (j : Thread nD τ) none Set.univ (m := oM) (r := rowR j) (Mk := Finset.univ) (S := (oRow j).view.set) (View.setOn_subset_set _ _)) $$ Hr
    iintro Hr
    iapply Hk
    ihave Hr' := (Entails.of_eq (rowPts_write m ρ j j f)) $$ [Hr]
    · unfold rowPts; iexact Hr
    unfold rowPts; iexact Hr'
  · rw [dif_neg (fun h => hj (hP.mp h)), if_neg hj]
    iintro H Hk
    iapply Hk; iexact H

/-- What device `c` has of block `j` after its copy: what was stored, and the unused slot, if `j` is itself; otherwise the
    credit of its send semaphore. -/
def sent (c j : Dev nD) : sProp 𝕄 :=
  if j = c then iprop(rowPts c j (outAt m ρ c) ∗ ∃ f, slotPts c j f) else cred (tallyAt (sendCell c j) () N)

/-- A slot reads back the block stored into it. -/
theorem slot_read (j : Fin 4) (f : (cc0_scratch0 : Ref sig .tc).ty.Contents (Elt F)) (v : FVec F S256x256 .f32) :
    (sSlot j).view.read (Elt F) ((sM.access (slotR j)).write (Elt F) f (shapeCast S1x256x256 v shapeCasts_S256x256_S1x256x256) Finset.univ) = v := by
  have h := View.read_write_univ (Val := Elt F) (v := sM.access (slotR j)) f (shapeCast S1x256x256 v shapeCasts_S256x256_S1x256x256)
  funext x
  have e := congrFun h (Shape.reshapeEquiv squeezes_S1x256x256_S256x256.numel_eq x)
  refine Eq.trans (Eq.trans rfl e) ?_
  exact congrFun (shapeCast_shapeCast v shapeCasts_S256x256_S1x256x256 squeezes_S1x256x256_S256x256.numel_eq.symm) x

/-- The send buffer's contents after the block for `j` was stored into slot `j`. -/
def filled (c : Dev nD) (j : Fin 4) (f : Buf (Elt F) ((c : Thread nD τ).loc cc0_scratch0)) : Buf (Elt F) ((c : Thread nD τ).loc cc0_scratch0) :=
  (sM.access (slotR j)).write (Elt F) f (shapeCast S1x256x256 (blk m ρ c j) shapeCasts_S256x256_S1x256x256) Finset.univ

/-- The filled slot is a payload of the send cell, -/
theorem send_pays (c : Dev nD) (j : Fin 4) (f : Buf (Elt F) ((c : Thread nD τ).loc cc0_scratch0)) :
    ((sSlot j).view.loc (c : Thread nD τ) ↦[(sSlot j).view.set]{fullShare} filled m ρ c j f : sProp 𝕄)
      ⊢ (Rd m ρ).payload (sendCell c j) 0 c := by
  rw [payload_send]; unfold sendPay slotPts
  iintro H; iexists _; iexact H

/-- and rows `256 c` of device `j`'s result, after the copy of the filled slot, are a payload of its receive cell. -/
theorem copy_pays (c j : Dev nD) (f : Buf (Elt F) ((c : Thread nD τ).loc cc0_scratch0)) (fd : Buf (Elt F) ((j : Thread nD τ).loc cc0_stg2_0)) :
    ((oRow c).view.loc (j : Thread nD τ) ↦[(oRow c).view.set]{fullShare}
        ((oRow c).view.write (Elt F) fd ((sSlot j).view.read (Elt F) (filled m ρ c j f)) Finset.univ) : sProp 𝕄)
      ⊢ (Rd m ρ).payload (recvCell j c) 0 c := by
  rw [payload_recv]; unfold recvPay
  have e : (sSlot j).view.read (Elt F) (filled m ρ c j f) = blk m ρ c j := slot_read j f _
  rw [e]
  exact Entails.of_eq (rowPts_write m ρ j c fd)

set_option maxHeartbeats 800000 in
/-- The `j`-th copy: the block into slot `j` of the send buffer, and from there into rows `256 c` of device `j`'s result,
    unless `j` is the device itself. -/
theorem send_step (c j : Dev nD) {P : Prop} [Decidable P] (hP : P ↔ j ≠ c) (n : P → Dev nD) (hn : ∀ h, n h = j)
    {o1 : Fin 1 → ℕ} (ho1 : o1 = ![j.val]) {inb1 : ∀ a, o1 a + S1.size a ≤ S4.size a}
    {o2 : Fin 3 → ℕ} (ho2 : o2 = ![j.val, 0, 0]) {inb2 : ∀ a, o2 a + S1x256x256.size a ≤ S4x256x256.size a}
    {o3 : Fin 1 → ℕ} (ho3 : o3 = ![c.val]) {inb3 : P → ∀ a, o3 a + S1.size a ≤ S4.size a}
    {o4 : Fin 2 → ℕ} (ho4 : o4 = ![256 * c.val, 0]) {inb4 : P → ∀ a, o4 a + S256x256.size a ≤ S1024x256.size a}
    {v : FVec F S1x256x256 .f32} (hv : v = shapeCast S1x256x256 (blk m ρ c j) shapeCasts_S256x256_S1x256x256)
    {hl : (sM : Memref sig .tc .vmem S4x256x256 .f32).view.LoadsAt (Rect.unit (s := S4x256x256) o2 S1x256x256.size inb2).toLoadRect}
    {hx : ((sM : Memref sig .tc .vmem S4x256x256 .f32).access (Rect.unit (s := S4x256x256) o2 S1x256x256.size inb2)).Stores Finset.univ}
    {hm : (Finset.univ : Finset (Rect.unit (s := S4x256x256) o2 S1x256x256.size inb2).shape.Idx) = Finset.univ ∨ ∀ a, (Rect.unit (s := S4x256x256) o2 S1x256x256.size inb2).stride a = 1}
    (O : CellTallies nD τ sig Unit) {α : Type} (k : Prog (TpuEff nD τ sig (Elt F) Λ₀ .tc) α) (Kt : α → sProp 𝕄) :
    iprop(records m ρ K ∗ owesE c (O + rcvDue c j) ∗ stored m ρ c j ∗ (∃ f, slotPts c j f)
        ∗ dutyTok ER (sendCell c j) 0 c ∗ dutyTok ER (recvCell j c) 0 c)
      ⊢ iprop(((owesE c O ∗ sent m ρ c j) -∗ wpc c k Kt)
        -∗ wpc c (if h : P then (do
            let _v : Vec F S1x256x256 .f32 ← Prog.lift (.load sM (Rect.unit (s := S4x256x256) o2 S1x256x256.size inb2).toLoadRect hl)
            Prog.lift (.store sM (Rect.unit (s := S4x256x256) o2 S1x256x256.size inb2) v Finset.univ hx hm)
            Prog.lift (.enqueueDma ((sM.slice (Rect.unit (s := S4x256x256) o2 S1x256x256.size inb2) (fun _ => rfl)).squeeze S256x256 squeezes_S1x256x256_S256x256)
              (.remote (Dev.tc (n h)) (oM.slice (Rect.unit (s := S1024x256) o4 S256x256.size (inb4 h)) (fun _ => rfl))
                (.dma ((cc0_scratch1.slice (Rect.unit (s := S4) o1 S1.size inb1)).squeeze S_ squeezes_S1_S_).sem))
              (.dma ((cc0_scratch2.slice (Rect.unit (s := S4) o3 S1.size (inb3 h))).squeeze S_ squeezes_S1_S_).sem)
              ((View.wordExact_bits rfl).reshape _ _) (View.wordExact_bits rfl) ⟨⟨rfl, Or.inl rfl⟩, trivial⟩)
            k) else k) Kt) := by
  subst ho1; subst ho2; subst ho3; subst ho4; subst hv
  unfold owesE stored sent rcvDue
  by_cases hj : j = c
  · subst hj
    rw [dif_neg (fun h => hP.mp h rfl), if_pos rfl, if_pos rfl, if_pos rfl, add_zero]
    iintro ⟨-, HO, Hr, Hs, -⟩ Hk
    iapply Hk
    isplitl [HO]; · iexact HO
    isplitl [Hr] <;> iassumption
  · have h : P := hP.mpr hj
    obtain rfl : n = fun _ => j := funext hn
    rw [dif_pos h, if_neg hj, if_neg hj, if_neg hj]
    simp only [Prog.lift, Prog.bind_op, Prog.bind_ret]
    iintro ⟨#HR, ⟨%W, HO⟩, ⟨%fd, Hr⟩, ⟨%f, Hs⟩, HtS, HtR⟩ Hk
    ihave HB := (records_send m ρ K c j) $$ HR
    icases HB with ⟨#HIs, #Hrs⟩
    ihave HB := (records_recv m ρ K j c) $$ HR
    icases HB with ⟨#HIr, #Hrr⟩
    unfold slotPts rowPts
    iapply (wp_load_rect 𝒱₀ (c : Thread nD τ) none Set.univ (m := sM) (r := slotR j) (S := (sSlot j).view.set)
      (by rw [slot_set]; exact (View.set_slice_whole _ _).subset)) $$ Hs
    iintro Hs
    iapply (wp_store 𝒱₀ (c : Thread nD τ) none Set.univ (m := sM) (r := slotR j) (Mk := Finset.univ) (S := (sSlot j).view.set)
      (by rw [slot_set]; exact (View.setOn_subset_set _ _).trans (View.set_slice_whole _ _).subset)) $$ Hs
    iintro Hs
    iapply (Rounds.wp_send_pointsTo 𝒱₀ ER (Rd m ρ) (c : Thread nD τ) none (c' := (j : Thread nD τ)) (src := sSlot j) (dst := oRow c)
      (κ₁ := K (c, sendIx j)) (κ₂ := K (j, recvIx c))
      (r₁ := 0) (r₂ := 0) (d₁ := c) (d₂ := c) (fs := filled m ρ c j f) (fd := fd)
      (by rw [duties_send m ρ c j hj]; exact Finset.mem_singleton_self _)
      (by rw [duties_recv m ρ j c (Ne.symm hj)]; exact Finset.mem_singleton_self _)
      () () N rfl (amount_dma m ρ c _ c) (amount_dma m ρ j _ c) O rfl (W := W)
      (send_pays m ρ c j f) (copy_pays m ρ c j f fd)) $$ [Hs Hr HO HtS HtR]
    · isplitr; · iexact HIs
      isplitr; · iexact HIr
      isplitl [Hs]; · iexact Hs
      isplitl [Hr]; · iexact Hr
      isplitl [HO]; · iexact HO
      isplitl [HtS]; · iexact HtS
      isplitr; · iexact Hrs
      isplitl [HtR]; · iexact HtR
      iexact Hrr
    iintro ⟨Hc, HO⟩
    iapply Hk
    isplitl [HO]; · iexists W; iexact HO
    iexact Hc

/-- The `j`-th pair of waits: unless `j` is the device itself, device `j`'s block has arrived and slot `j` is free; in
    either case device `c` has rows `256 j` of its result, slot `j`, and its send and receive cells `j` at zero. -/
theorem wait_step (c j : Dev nD) {P : Prop} [Decidable P] (hP : P ↔ j ≠ c)
    {o1 : Fin 1 → ℕ} (ho1 : o1 = ![j.val]) {inb1 : ∀ a, o1 a + S1.size a ≤ S4.size a}
    {o2 : Fin 3 → ℕ} (ho2 : o2 = ![j.val, 0, 0]) {inb2 : ∀ a, o2 a + S1x256x256.size a ≤ S4x256x256.size a}
    {o4 : Fin 2 → ℕ} (ho4 : o4 = ![256 * j.val, 0]) {inb4 : ∀ a, o4 a + S256x256.size a ≤ S1024x256.size a}
    {α : Type} (k : Prog (TpuEff nD τ sig (Elt F) Λ₀ .tc) α) (Kt : α → sProp 𝕄) :
    iprop(records m ρ K ∗ owesE c 0 ∗ sent m ρ c j ∗ rcvCred c j ∗ posAt c j)
      ⊢ iprop(((owesE c 0 ∗ rowPts c j (outAt m ρ c) ∗ (∃ f, slotPts c j f) ∗ semVal (sendCell c j) 0 ∗ semVal (recvCell c j) 0) -∗ wpc c k Kt)
        -∗ wpc c (if h : P then (do
            Prog.lift (.waitDma2 ((cc0_scratch2.slice (Rect.unit (s := S4) o1 S1.size inb1)).squeeze S_ squeezes_S1_S_).sem
              ((sM.slice (Rect.unit (s := S4x256x256) o2 S1x256x256.size inb2) (fun _ => rfl)).squeeze S256x256 squeezes_S1x256x256_S256x256)
              (oM.slice (Rect.unit (s := S1024x256) o4 S256x256.size inb4) (fun _ => rfl))
              ((View.wordExact_bits rfl).reshape _ _) (View.wordExact_bits rfl))
            Prog.lift (.waitDma2 ((cc0_scratch1.slice (Rect.unit (s := S4) o1 S1.size inb1)).squeeze S_ squeezes_S1_S_).sem
              (oM.slice (Rect.unit (s := S1024x256) o4 S256x256.size inb4) (fun _ => rfl))
              ((sM.slice (Rect.unit (s := S4x256x256) o2 S1x256x256.size inb2) (fun _ => rfl)).squeeze S256x256 squeezes_S1x256x256_S256x256)
              (View.wordExact_bits rfl) ((View.wordExact_bits rfl).reshape _ _))
            k) else k) Kt) := by
  subst ho1; subst ho2; subst ho4
  unfold owesE sent rcvCred posAt
  by_cases hj : j = c
  · subst hj
    rw [dif_neg (fun h => hP.mp h rfl), if_pos rfl, if_pos rfl]
    iintro ⟨#HR, HO, ⟨Hr, Hs⟩, -, ⟨HaS, HaR⟩⟩ Hk
    ihave HB := (records_send m ρ K j j) $$ HR
    icases HB with ⟨#HIs, -⟩
    ihave HB := (records_recv m ρ K j j) $$ HR
    icases HB with ⟨#HIr, -⟩
    imod (Rounds.cell_close ER (Rd m ρ) (Set.mem_univ (K (j, sendIx j))) (fun h => h) (R := 0) (fun r _ => by
      rcases r with _ | r
      · exact duties_send_self m ρ j
      · exact duties_later m ρ _ _ (Nat.succ_pos r))) $$ [HaS] with HzS
    · isplitr; · iexact HIs
      iexact HaS
    imod (Rounds.cell_close ER (Rd m ρ) (Set.mem_univ (K (j, recvIx j))) (fun h => h) (R := 0) (fun r _ => by
      rcases r with _ | r
      · exact duties_recv_self m ρ j
      · exact duties_later m ρ _ _ (Nat.succ_pos r))) $$ [HaR] with HzR
    · isplitr; · iexact HIr
      iexact HaR
    iapply Hk
    isplitl [HO]; · iexact HO
    isplitl [Hr]; · iexact Hr
    isplitl [Hs]; · iexact Hs
    isplitl [HzS] <;> iassumption
  · have h : P := hP.mpr hj
    rw [dif_pos h, if_neg hj, if_neg hj]
    simp only [Prog.lift, Prog.bind_op, Prog.bind_ret]
    iintro ⟨#HR, ⟨%W, HO⟩, HcS, HcR, ⟨HaS, HaR⟩⟩ Hk
    ihave HB := (records_send m ρ K c j) $$ HR
    icases HB with ⟨#HIs, -⟩
    ihave HB := (records_recv m ρ K c j) $$ HR
    icases HB with ⟨#HIr, -⟩
    iapply (Rounds.wp_wait_rest_token 𝒱₀ ER (Rd m ρ) (c : Thread nD τ) none (κ := K (c, recvIx j))
        (wpE_waitDma2_eq 𝒱₀ (c : Thread nD τ) none Set.univ) (Set.mem_univ _) () (O := 0) (W := W) (R := 0) (m := 0) (T := ∅)
        (by rw [Nat.zero_add, expect_recv m ρ c j hj]; rfl)) $$ [HcR HO HaR]
    · isplitr; · iexact HIr
      isplitl [HcR]; · iexact HcR
      isplitl [HO]; · iexact HO
      isplitr; · rw [MayWait_zero]; iempintro
      iexact HaR
    iintro ⟨HO, HaR, -, Hpay⟩
    ihave Hr := (Entails.of_eq (rest_recv m ρ c j hj)) $$ Hpay
    iapply (Rounds.wp_wait_rest_token 𝒱₀ ER (Rd m ρ) (c : Thread nD τ) none (κ := K (c, sendIx j))
        (wpE_waitDma2_eq 𝒱₀ (c : Thread nD τ) none Set.univ) (Set.mem_univ _) () (O := 0)
        (W := insert (SemLoc.dma (recvQ j), ()) W) (R := 0) (m := 0) (T := ∅)
        (by rw [Nat.zero_add, expect_send m ρ c j hj])) $$ [HcS HO HaS]
    · isplitr; · iexact HIs
      isplitl [HcS]; · iexact HcS
      isplitl [HO]; · iexact HO
      isplitr; · rw [MayWait_zero]; iempintro
      iexact HaS
    iintro ⟨HO, HaS, -, Hpay⟩
    ihave Hs := (Entails.of_eq (rest_send m ρ c j hj)) $$ Hpay
    imod (Rounds.cell_close ER (Rd m ρ) (Set.mem_univ (K (c, sendIx j))) (fun h => h) (R := 0 + 1) (duties_later m ρ (sendCell c j))) $$ [HaS] with HzS
    · isplitr; · iexact HIs
      iexact HaS
    imod (Rounds.cell_close ER (Rd m ρ) (Set.mem_univ (K (c, recvIx j))) (fun h => h) (R := 0 + 1) (duties_later m ρ (recvCell c j))) $$ [HaR] with HzR
    · isplitr; · iexact HIr
      iexact HaR
    iapply Hk
    isplitl [HO]; · iexists _; iexact HO
    isplitl [Hr]; · unfold recvPay; iexact Hr
    isplitl [Hs]; · unfold sendPay; iexact Hs
    isplitl [HzS] <;> iassumption

end Cert.KernelIdeal.A2A

end
-- ==== Proof.IdealBody.lean ====
/-
# The body of the kernel, from the launch's ghost state to the assembled result

The body is the steps of `IdealSteps` one after the other: four signals, the barrier wait, per device two loads, an own
store and a copy, and four pairs of waits. The contract of each of the program's three parts is one theorem.
-/
module

public import proofs.«01_k».proof.Proof.IdealSteps

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The conditions and device numbers the program computes -/

/-- The program's number of the device it runs on. -/
abbrev myWord (c : Dev nD) : BitVec 32 := Scalar.remsi (Scalar.divsi (Dev.word c) 1#32) 4#32

/-- Its test "block `j` is mine", -/
theorem mine_iff (c : Dev nD) (j : Fin 4) :
    (Scalar.cmpi .ne (Scalar.extui (Scalar.cmpi .eq (myWord c) (BitVec.ofNat 32 j.val)) : BitVec 32) 0#32 = 1#1) ↔ j = c := by
  revert c j; decide
/-- and "block `j` is another's". -/
theorem other_iff (c : Dev nD) (j : Fin 4) :
    (Scalar.cmpi .ne (Scalar.extui (Scalar.cmpi .ne (myWord c) (BitVec.ofNat 32 j.val)) : BitVec 32) 0#32 = 1#1) ↔ j ≠ c := by
  revert c j; decide

theorem cond1_iff (c : Dev nD) : k0_cond1 c = 1#1 ↔ (0 : Dev nD) ≠ c := by revert c; decide
theorem cond2_iff (c : Dev nD) : k0_cond2 c = 1#1 ↔ (1 : Dev nD) ≠ c := by revert c; decide
theorem cond3_iff (c : Dev nD) : k0_cond3 c = 1#1 ↔ (2 : Dev nD) ≠ c := by revert c; decide
theorem cond4_iff (c : Dev nD) : k0_cond4 c = 1#1 ↔ (3 : Dev nD) ≠ c := by revert c; decide
theorem cond6_iff (c : Dev nD) : k0_cond6 c = 1#1 ↔ (0 : Dev nD) ≠ c := by revert c; decide
theorem cond8_iff (c : Dev nD) : k0_cond8 c = 1#1 ↔ (1 : Dev nD) ≠ c := by revert c; decide
theorem cond10_iff (c : Dev nD) : k0_cond10 c = 1#1 ↔ (2 : Dev nD) ≠ c := by revert c; decide
theorem cond12_iff (c : Dev nD) : k0_cond12 c = 1#1 ↔ (3 : Dev nD) ≠ c := by revert c; decide

section Parts

variable (K : Dev nD × Fin 9 → ℕ) (c : Dev nD)

/-- The staged operands, which every part reads. -/
def inputs : sProp 𝕄 :=
  iprop((((c : Thread nD τ).loc cc0_stg0_0) ↦{fullShare} xstg m ρ c) ∗ (((c : Thread nD τ).loc cc0_stg1_0) ↦{fullShare} wstg m ρ c))

/-- What the `j`-th copy needs: rows `256 c` of device `j`, slot `j`, two tokens. -/
def toSend (j : Fin 4) : sProp 𝕄 :=
  iprop((∃ f, rowPts j c f) ∗ (∃ f, slotPts c j f) ∗ dutyTok ER (sendCell c j) 0 c ∗ dutyTok ER (recvCell j c) 0 c)

/-- What the `j`-th signal needs: its token and rows `256 j` of the result. -/
def toSignal (j : Fin 4) : sProp 𝕄 := iprop(dutyTok ER (barCell j) 0 c ∗ ∃ f, rowPts c j f)

/-- The rest of what the `j`-th copy needs beside the rows. -/
def slotToks (j : Fin 4) : sProp 𝕄 :=
  iprop((∃ f, slotPts c j f) ∗ dutyTok ER (sendCell c j) 0 c ∗ dutyTok ER (recvCell j c) 0 c)

set_option maxHeartbeats 1600000 in
/-- Part 1: the signals, the barrier and block 0. -/
theorem part1_wp (Kt : (Σ' (d0 : Dev nD), BitVec 32) → sProp 𝕄) :
    iprop(records m ρ K ∗ levAts L lv ∗ owesE c (O₀ c) ∗ cred (tallyAt (barCell c) () 3) ∗ atPos ER (barCell c) 0 ∅ 0
        ∗ inputs m ρ c ∗ (toSignal c 0 ∗ toSignal c 1 ∗ toSignal c 2 ∗ toSignal c 3)
        ∗ (slotToks c 0 ∗ slotToks c 1 ∗ slotToks c 2 ∗ slotToks c 3))
      ⊢ iprop(((owesE c (R1 c) ∗ semVal (barCell c) 0 ∗ inputs m ρ c ∗ sent m ρ c 0
            ∗ toSend c 1 ∗ toSend c 2 ∗ toSend c 3) -∗ Kt ⟨c, myWord c⟩)
        -∗ wpc c (k0_part1 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt) := by
  rw [k0_part1_eq_skeleton]; unfold k0_part1_skel
  dsimp only
  unfold inputs toSignal slotToks toSend
  iintro ⟨#HR, #Hlev, HO, HcB, HaB, ⟨Hx, Hw⟩, ⟨⟨Ht0, Hr0⟩, ⟨Ht1, Hr1⟩, ⟨Ht2, Hr2⟩, ⟨Ht3, Hr3⟩⟩, ⟨⟨Hs0, Hu0⟩, ⟨Hs1, Hu1⟩, ⟨Hs2, Hu2⟩, ⟨Hs3, Hu3⟩⟩⟩ Hk
  iapply (dev_step c _ _)
  iapply (sig_step m ρ K c 0 (cond1_iff c) (fun h => ⟨k0_dev1, k0_dev1_lt c h⟩) (fun h => Fin.ext k0_dev1_eq) (B1 c) _ _) $$ [HO Ht0 Hr0]
  · isplitr; · iexact HR
    isplitl [HO]; · iexact HO
    isplitl [Ht0] <;> iassumption
  iintro ⟨HO, Hr0⟩
  iapply (sig_step m ρ K c 1 (cond2_iff c) (fun h => ⟨k0_dev2, k0_dev2_lt c h⟩) (fun h => Fin.ext k0_dev2_eq) (B2 c) _ _) $$ [HO Ht1 Hr1]
  · isplitr; · iexact HR
    isplitl [HO]; · iexact HO
    isplitl [Ht1] <;> iassumption
  iintro ⟨HO, Hr1⟩
  iapply (sig_step m ρ K c 2 (cond3_iff c) (fun h => ⟨k0_dev3, k0_dev3_lt c h⟩) (fun h => Fin.ext k0_dev3_eq) (B3 c) _ _) $$ [HO Ht2 Hr2]
  · isplitr; · iexact HR
    isplitl [HO]; · iexact HO
    isplitl [Ht2] <;> iassumption
  iintro ⟨HO, Hr2⟩
  iapply (sig_step m ρ K c 3 (cond4_iff c) (fun h => ⟨k0_dev4, k0_dev4_lt c h⟩) (fun h => Fin.ext k0_dev4_eq) (R0 c) _ _) $$ [HO Ht3 Hr3]
  · isplitr; · iexact HR
    isplitl [HO]; · iexact HO
    isplitl [Ht3] <;> iassumption
  iintro ⟨HO, Hr3⟩
  iapply (bar_step m ρ K c _ _) $$ [HO HcB HaB Hr0 Hr1 Hr2 Hr3]
  · isplitr; · iexact HR
    isplitr; · iexact Hlev
    isplitl [HO]; · iexact HO
    isplitl [HcB]; · iexact HcB
    isplitl [HaB]; · iexact HaB
    rw [bigSep_fin4]
    isplitl [Hr0]; · iexact Hr0
    isplitl [Hr1]; · iexact Hr1
    isplitl [Hr2] <;> iassumption
  iintro ⟨HO, HzB, Hr⟩
  ihave Hr' := (Entails.of_eq (bigSep_fin4 (F := F) fun j : Fin 4 => iprop(∃ f, rowPts j c f))) $$ Hr
  icases Hr' with ⟨Hr0, Hr1, Hr2, Hr3⟩
  icases Hu0 with ⟨HtS, HtR⟩
  iapply (load_x m ρ c _ _) $$ Hx; iintro Hx
  iapply (load_w m ρ c 0 rfl _ _) $$ Hw; iintro Hw
  iapply (own_step m ρ c 0 (mine_iff c 0) rfl rfl _ _) $$ Hr0; iintro Hr0
  iapply (send_step m ρ K c 0 (cond6_iff c) (fun h => ⟨k0_dev5, k0_dev5_lt c h⟩) (fun h => Fin.ext k0_dev5_eq) rfl rfl (k0_off1_eq c) (k0_off2_eq c) rfl
    (R1 c) _ _) $$ [HO Hr0 Hs0 HtS HtR]
  · isplitr; · iexact HR
    isplitl [HO]; · iexact HO
    isplitl [Hr0]; · iexact Hr0
    isplitl [Hs0]; · iexact Hs0
    isplitl [HtS] <;> iassumption
  iintro ⟨HO, H0⟩
  simp only [Prog.pure_eq_ret, wp_ret]
  imodintro
  iapply Hk
  isplitl [HO]; · iexact HO
  isplitl [HzB]; · iexact HzB
  isplitl [Hx Hw]
  · isplitl [Hx] <;> iassumption
  isplitl [H0]; · iexact H0
  isplitl [Hr1 Hs1 Hu1]
  · isplitl [Hr1]; · iexact Hr1
    isplitl [Hs1] <;> iassumption
  isplitl [Hr2 Hs2 Hu2]
  · isplitl [Hr2]; · iexact Hr2
    isplitl [Hs2] <;> iassumption
  isplitl [Hr3]; · iexact Hr3
  isplitl [Hs3] <;> iassumption

set_option maxHeartbeats 1600000 in
/-- Part 2: blocks 1 and 2, and the product of block 3. -/
theorem part2_wp (Kt : (Σ' (v59 : FVec F S256x256 .f32), F .f32) → sProp 𝕄) :
    iprop(records m ρ K ∗ owesE c (R1 c) ∗ inputs m ρ c ∗ toSend c 1 ∗ toSend c 2)
      ⊢ iprop(((owesE c (R3 c) ∗ inputs m ρ c ∗ sent m ρ c 1 ∗ sent m ρ c 2)
          -∗ Kt ⟨k0_pay9 (xval m ρ c) (wcol m ρ c 3), Scalar.ofBits .f32 0x00000000#32⟩)
        -∗ wpc c (k0_part2 (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2 c (myWord c)) Kt) := by
  rw [k0_part2_eq_skeleton]; unfold k0_part2_skel
  dsimp only
  unfold inputs toSend
  iintro ⟨#HR, HO, ⟨Hx, Hw⟩, T1, T2⟩ Hk
  icases T1 with ⟨Hr, Hs, HtS, HtR⟩
  iapply (load_x m ρ c _ _) $$ Hx; iintro Hx
  iapply (load_w m ρ c 1 rfl _ _) $$ Hw; iintro Hw
  iapply (own_step m ρ c 1 (mine_iff c 1) rfl rfl _ _) $$ Hr; iintro Hr
  iapply (send_step m ρ K c 1 (cond8_iff c) (fun h => ⟨k0_dev6, k0_dev6_lt c h⟩) (fun h => Fin.ext k0_dev6_eq) rfl rfl (k0_off3_eq c) (k0_off4_eq c) rfl
    (R2 c) _ _) $$ [HO Hr Hs HtS HtR]
  · isplitr; · iexact HR
    isplitl [HO]; · iexact HO
    isplitl [Hr]; · iexact Hr
    isplitl [Hs]; · iexact Hs
    isplitl [HtS] <;> iassumption
  iintro ⟨HO, H1⟩
  icases T2 with ⟨Hr, Hs, HtS, HtR⟩
  iapply (load_x m ρ c _ _) $$ Hx; iintro Hx
  iapply (load_w m ρ c 2 rfl _ _) $$ Hw; iintro Hw
  iapply (own_step m ρ c 2 (mine_iff c 2) rfl rfl _ _) $$ Hr; iintro Hr
  iapply (send_step m ρ K c 2 (cond10_iff c) (fun h => ⟨k0_dev7, k0_dev7_lt c h⟩) (fun h => Fin.ext k0_dev7_eq) rfl rfl (k0_off5_eq c) (k0_off6_eq c) rfl
    (R3 c) _ _) $$ [HO Hr Hs HtS HtR]
  · isplitr; · iexact HR
    isplitl [HO]; · iexact HO
    isplitl [Hr]; · iexact Hr
    isplitl [Hs]; · iexact Hs
    isplitl [HtS] <;> iassumption
  iintro ⟨HO, H2⟩
  iapply (load_x m ρ c _ _) $$ Hx; iintro Hx
  iapply (load_w m ρ c 3 rfl _ _) $$ Hw; iintro Hw
  simp only [Prog.pure_eq_ret, wp_ret]
  imodintro
  iapply Hk
  isplitl [HO]; · iexact HO
  isplitl [Hx Hw]
  · isplitl [Hx] <;> iassumption
  isplitl [H1] <;> iassumption

set_option maxHeartbeats 3200000 in
/-- The body: from the staged operands, a result and a send buffer of any contents and the launch's ghost state it leaves
    the assembled result, the send buffer, every semaphore at zero, and nothing owed. -/
theorem body_wp (Kt : PUnit → sProp 𝕄) :
    iprop(Φ₀ m ρ c ∗ owesE c (O₀ c) ∗ inputs m ρ c ∗ ∃ f, ((c : Thread nD τ).loc cc0_stg2_0) ↦{fullShare} f)
      ⊢ iprop(((Φ₁ c ∗ owesE c 0 ∗ inputs m ρ c ∗ (((c : Thread nD τ).loc cc0_stg2_0) ↦{fullShare} outAt m ρ c)) -∗ Kt ⟨⟩)
        -∗ wpc c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt) := by
  rw [cc0_body_eq_skeleton]; unfold cc0_body_skel
  unfold Φ₀ start ghost Φ₁
  iintro ⟨⟨⟨⟨%K, #HR, HaB, Ha, Ht⟩, HcB, Hc, #Hlev⟩, ⟨%fs, Hs⟩⟩, HO, Hin, ⟨%fo, Ho⟩⟩ Hk
  ihave Hr' := ((Entails.of_eq (rows_eq c fo)).trans (Entails.of_eq (bigSep_fin4 _))) $$ Ho
  icases Hr' with ⟨Hr0, Hr1, Hr2, Hr3⟩
  ihave Hs' := ((Entails.of_eq (slots_eq c fs)).trans (Entails.of_eq (bigSep_fin4 _))) $$ Hs
  icases Hs' with ⟨Hs0, Hs1, Hs2, Hs3⟩
  ihave Ha' := (Entails.of_eq (bigSep_fin4 _)) $$ Ha
  icases Ha' with ⟨Ha0, Ha1, Ha2, Ha3⟩
  ihave Hc' := (Entails.of_eq (bigSep_fin4 _)) $$ Hc
  icases Hc' with ⟨Hc0, Hc1, Hc2, Hc3⟩
  ihave Ht' := (Entails.of_eq (bigSep_fin4 _)) $$ Ht
  unfold payTok
  icases Ht' with ⟨⟨Hb0, Hu0⟩, ⟨Hb1, Hu1⟩, ⟨Hb2, Hu2⟩, ⟨Hb3, Hu3⟩⟩
  iapply (bind_step c _ _ Kt)
  iapply (part1_wp m ρ K c _) $$ [HO HcB HaB Hin Hb0 Hb1 Hb2 Hb3 Hr0 Hr1 Hr2 Hr3 Hs0 Hs1 Hs2 Hs3 Hu0 Hu1 Hu2 Hu3]
  · isplitr; · iexact HR
    isplitr; · iexact Hlev
    isplitl [HO]; · iexact HO
    isplitl [HcB]; · iexact HcB
    isplitl [HaB]; · iexact HaB
    isplitl [Hin]; · iexact Hin
    unfold toSignal slotToks
    isplitl [Hb0 Hb1 Hb2 Hb3 Hr0 Hr1 Hr2 Hr3]
    · isplitl [Hb0 Hr0]; · isplitl [Hb0]; · iexact Hb0
                           iexists fo; iexact Hr0
      isplitl [Hb1 Hr1]; · isplitl [Hb1]; · iexact Hb1
                           iexists fo; iexact Hr1
      isplitl [Hb2 Hr2]; · isplitl [Hb2]; · iexact Hb2
                           iexists fo; iexact Hr2
      isplitl [Hb3]; · iexact Hb3
      iexists fo; iexact Hr3
    · isplitl [Hs0 Hu0]; · isplitl [Hs0]; · iexists fs; iexact Hs0
                           iexact Hu0
      isplitl [Hs1 Hu1]; · isplitl [Hs1]; · iexists fs; iexact Hs1
                           iexact Hu1
      isplitl [Hs2 Hu2]; · isplitl [Hs2]; · iexists fs; iexact Hs2
                           iexact Hu2
      isplitl [Hs3]; · iexists fs; iexact Hs3
      iexact Hu3
  iintro ⟨HO, HzB, Hin, H0, T1, T2, T3⟩
  dsimp only
  iapply (bind_step c _ _ Kt)
  iapply (part2_wp m ρ K c _) $$ [HO Hin T1 T2]
  · isplitr; · iexact HR
    isplitl [HO]; · iexact HO
    isplitl [Hin]; · iexact Hin
    isplitl [T1] <;> iassumption
  iintro ⟨HO, Hin, H1, H2⟩
  dsimp only
  unfold toSend
  icases T3 with ⟨Hr, Hs, HtS, HtR⟩
  iapply (own_step m ρ c 3 (mine_iff c 3) rfl rfl _ _) $$ Hr; iintro Hr
  iapply (send_step m ρ K c 3 (cond12_iff c) (fun h => ⟨k0_dev8, k0_dev8_lt c h⟩) (fun h => Fin.ext k0_dev8_eq) rfl rfl (k0_off7_eq c) (k0_off8_eq c) rfl
    (0) _ _) $$ [HO Hr Hs HtS HtR]
  · isplitr; · iexact HR
    isplitl [HO]; · iexact HO
    isplitl [Hr]; · iexact Hr
    isplitl [Hs]; · iexact Hs
    isplitl [HtS] <;> iassumption
  iintro ⟨HO, H3⟩
  iapply (wait_step m ρ K c 0 (other_iff c 0) rfl rfl rfl _ _) $$ [HO H0 Hc0 Ha0]
  · isplitr; · iexact HR
    isplitl [HO]; · iexact HO
    isplitl [H0]; · iexact H0
    isplitl [Hc0] <;> iassumption
  iintro ⟨HO, Hr0, Hs0, Hz0⟩
  iapply (wait_step m ρ K c 1 (other_iff c 1) rfl rfl rfl _ _) $$ [HO H1 Hc1 Ha1]
  · isplitr; · iexact HR
    isplitl [HO]; · iexact HO
    isplitl [H1]; · iexact H1
    isplitl [Hc1] <;> iassumption
  iintro ⟨HO, Hr1, Hs1, Hz1⟩
  iapply (wait_step m ρ K c 2 (other_iff c 2) rfl rfl rfl _ _) $$ [HO H2 Hc2 Ha2]
  · isplitr; · iexact HR
    isplitl [HO]; · iexact HO
    isplitl [H2]; · iexact H2
    isplitl [Hc2] <;> iassumption
  iintro ⟨HO, Hr2, Hs2, Hz2⟩
  iapply (wait_step m ρ K c 3 (other_iff c 3) rfl rfl rfl _ _) $$ [HO H3 Hc3 Ha3]
  · isplitr; · iexact HR
    isplitl [HO]; · iexact HO
    isplitl [H3]; · iexact H3
    isplitl [Hc3] <;> iassumption
  iintro ⟨HO, Hr3, Hs3, Hz3⟩
  simp only [Prog.pure_eq_ret, wp_ret]
  imodintro
  iapply Hk
  isplitl [HzB Hs0 Hs1 Hs2 Hs3 Hz0 Hz1 Hz2 Hz3]
  · isplitl [Hs0 Hs1 Hs2 Hs3]
    · iapply (slots_join c fs)
      rw [bigSep_fin4]
      isplitl [Hs0]; · iexact Hs0
      isplitl [Hs1]; · iexact Hs1
      isplitl [Hs2] <;> iassumption
    isplitl [Hz0 Hz1 Hz2 Hz3]
    · rw [bigSep_fin4]
      isplitl [Hz0]; · iexact Hz0
      isplitl [Hz1]; · iexact Hz1
      isplitl [Hz2] <;> iassumption
    iexact HzB
  isplitl [HO]; · iexact HO
  isplitl [Hin]; · iexact Hin
  iapply ((Entails.of_eq (bigSep_fin4 _).symm).trans (Entails.of_eq (rows_eq c (outAt m ρ c)).symm))
  isplitl [Hr0]; · iexact Hr0
  isplitl [Hr1]; · iexact Hr1
  isplitl [Hr2] <;> iassumption

end Parts

end Cert.KernelIdeal.A2A

end
-- ==== Proof.IdealRun.lean ====
/-
# The launch and the run

The launch element holds, beside the pipeline's part, the nine cells of every device and three duty tokens per pair of
devices. A global step allocates every cell's invariant and deals each token to the device that pays with it. The run
then follows from the body's contract.
-/
module

public import proofs.«01_k».proof.Proof.IdealBody
public import Idealize.ShloMosaic.Lib.Pipeline.CollectiveSegs

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation to the pipeline -/

/-- What the pipeline of device `c` transfers: the arrays start as in the launch memory, the inputs' staging buffers stay as
    fetched, the output's ends as the assembled result; the body is entered at `Φ₀` owing `O₀` and left at `Φ₁` owing nothing. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Owning a whole buffer is a points-to of all of it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; rw [View.set_whole]; rfl

/-- A staging buffer holding `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_whole]
  show (iprop(Φ₀ m ρ c ∗ (dats m ρ 0 c).owesAt () t0_0.castSucc
      ∗ (∃ d, holds c cc0_stg0_0 ((dats m ρ 0 c).before (0 : Fin 3) t0_0 d))
      ∗ (∃ d, holds c cc0_stg1_0 ((dats m ρ 0 c).before (1 : Fin 3) t0_0 d))
      ∗ (∃ d, holds c cc0_stg2_0 ((dats m ρ 0 c).before (2 : Fin 3) t0_0 d))) : sProp 𝕄)
    ⊢ wpc c (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _) cc0_scratch1 cc0_scratch2)
      (fun _ => iprop(Φ₁ c ∗ (dats m ρ 0 c).owesAt () t0_0.succ
        ∗ holds c cc0_stg0_0 (xstg m ρ c) ∗ holds c cc0_stg1_0 (wstg m ρ c) ∗ holds c cc0_stg2_0 (outAt m ρ c)))
  iintro ⟨HΦ, ⟨%W, %hW, HO⟩, ⟨%d0, %g0, %hg0, Hx⟩, ⟨%d1, %g1, %hg1, Hw⟩, ⟨%d2, %g2, -, Ho⟩⟩
  have e0 : g0 = xstg m ρ c := by rw [hg0]; unfold Dat.before; rw [if_pos (fetch0_0 _)]; rfl
  have e1 : g1 = wstg m ρ c := by rw [hg1]; unfold Dat.before; rw [if_pos (fetch0_1 _)]; rfl
  subst e0; subst e1
  iapply (body_wp m ρ c _) $$ [HΦ HO Hx Hw Ho]
  · isplitl [HΦ]; · iexact HΦ
    isplitl [HO]; · unfold owesE; iexists W; iexact HO
    isplitl [Hx Hw]
    · unfold inputs; isplitl [Hx] <;> iassumption
    iexists g2; iexact Ho
  unfold owesE inputs
  iintro ⟨HΦ, ⟨%W', HO⟩, ⟨Hx, Hw⟩, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have hc : c = c' := congrArg (fun g : GSem nD τ sig => g.1.1) h
  have hk : csem k = csem k' := congrArg Prod.snd h
  have : ∀ k k' : Fin 9, csem k = csem k' → k = k' := by decide
  rw [hc, this k k' hk]
/-- All cells of the protocol. -/
def allCells : Finset (GSem nD τ sig) := Finset.univ.map ⟨kcell, kcell_injective⟩

/-- The three tokens minted for the pair `c`, `d`: of `c`'s barrier cell in `d`'s name, of its send cell `d` in its own, of
    its receive cell `d` in `d`'s. -/
abbrev tokOf (x : Dev nD × Dev nD × Fin 3) : GSem nD τ sig × ℕ × Dev nD := match x.2.2 with
  | 0 => (barCell x.1, 0, x.2.1) | 1 => (sendCell x.1 x.2.1, 0, x.1) | 2 => (recvCell x.1 x.2.1, 0, x.2.1)
theorem tokOf_injective : Function.Injective tokOf := by
  rintro ⟨c, d, k⟩ ⟨c', d', k'⟩ h
  have hc : c = c' := by
    have := congrArg (fun x : GSem nD τ sig × ℕ × Dev nD => x.1.1.1) h
    fin_cases k <;> fin_cases k' <;> exact this
  subst hc
  have hs := congrArg (fun x : GSem nD τ sig × ℕ × Dev nD => x.1.2) h
  have hd := congrArg (fun x : GSem nD τ sig × ℕ × Dev nD => x.2.2) h
  fin_cases k <;> fin_cases k'
  · have : d = d' := hd
    rw [this]
  · exact absurd hs.symm (dma_ne_bar _)
  · exact absurd hs.symm (dma_ne_bar _)
  · exact absurd hs (dma_ne_bar _)
  · exact congrArg (fun d => (c, d, (1 : Fin 3))) (send_inj hs)
  · exact absurd hs (send_ne_recv _ _)
  · exact absurd hs (dma_ne_bar _)
  · exact absurd hs.symm (send_ne_recv _ _)
  · exact congrArg (fun d => (c, d, (2 : Fin 3))) (recv_inj hs)
def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens minted for the pair `c`, `d`. -/
def minted (c d : Dev nD) : sProp 𝕄 :=
  iprop(dutyTok ER (barCell c) 0 d ∗ dutyTok ER (sendCell c d) 0 c ∗ dutyTok ER (recvCell c d) 0 d)

/-- What the launch element deals device `c`. -/
def G (c : Dev nD) : sProp 𝕄 :=
  iprop((bigSep Finset.univ fun k : Fin 9 => roundState ER (Rd m ρ) (kcell (c, k)) 0)
    ∗ (bigSep Finset.univ fun k : Fin 9 => iprop(atPos ER (kcell (c, k)) 0 ∅ 0 ∗ reached ER (kcell (c, k)) 0))
    ∗ bigSep Finset.univ fun d : Dev nD => minted c d)

/-- What the global step makes of it. -/
def G' (c : Dev nD) : sProp 𝕄 := iprop(∃ K, ghost m ρ K c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun d : Dev nD => minted c d := by
    unfold allToks; rw [bigSep_map, bigSep_univ_prod]
    refine bigSep_congr fun c _ => ?_
    rw [bigSep_univ_prod]
    exact bigSep_congr fun d _ => by unfold minted; rw [bigSep_fin3]; rfl
  iintro H
  imod (Rounds.fund ER (Rd m ρ) allCells allToks) $$ H with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own eight semaphores at zero; -/
theorem ownSems0_eq (c : Dev nD) : (Pipeline.ownSems0 (Ix := Unit) (Name := ℕ) (U := UU) (Lvl := ℕ) (Val := Elt F) (τ := τ) osem c : sProp 𝕄)
    = bigSep Finset.univ fun k : Fin 8 => semVal (((c : Thread nD τ), osem k) : GSem nD τ sig) 0 := by
  rw [Pipeline.ownSems0_eq_of_list c osem [0, 1, 2, 3, 4, 5, 6, 7] (by decide) (by decide), bigSep_fin8]; rfl
/-- the barrier semaphore is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin8, bigSep_fin9]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 9 => iprop(∃ κ : ℕ, cellInv ER (Rd m ρ) κ (kcell (c, k))))
          ∗ (bigSep Finset.univ fun k : Fin 9 => iprop(atPos ER (kcell (c, k)) 0 ∅ 0 ∗ reached ER (kcell (c, k)) 0))
          ∗ bigSep Finset.univ fun d : Dev nD => minted c d) := by
  unfold G
  iintro ⟨Hos, Hus, Hst, Hat, Htok⟩
  ihave Hv := (sems0 (F := F) c) $$ [Hos Hus]
  · isplitl [Hos] <;> iassumption
  imod (show iprop((bigSep Finset.univ fun k : Fin 9 => semVal (kcell (c, k)) 0) ∗ bigSep Finset.univ fun k : Fin 9 => roundState ER (Rd m ρ) (kcell (c, k)) 0)
      ⊢ (|={Set.univ}=> bigSep Finset.univ fun k : Fin 9 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat] <;> iassumption

/-- Dealing the tokens: those of barrier and receive cells go to the devices that name them. -/
theorem deal : (bigSep Finset.univ fun c : Dev nD => bigSep Finset.univ fun d : Dev nD => (minted c d : sProp 𝕄))
    ⊢ bigSep Finset.univ fun c : Dev nD => bigSep Finset.univ fun j : Fin 4 => payTok c j := by
  unfold minted payTok
  simp only [bigSep_sep']
  rw [bigSep_univ_comm fun c d : Dev nD => (dutyTok ER (barCell c) 0 d : sProp 𝕄),
    bigSep_univ_comm fun c d : Dev nD => (dutyTok ER (recvCell c d) 0 d : sProp 𝕄)]

/-- A device's nine positions, sorted by peer. -/
theorem positions (c : Dev nD) : (bigSep Finset.univ fun k : Fin 9 => (atPos ER (kcell (c, k)) 0 ∅ 0 : sProp 𝕄))
    ⊢ iprop(atPos ER (barCell c) 0 ∅ 0 ∗ bigSep Finset.univ fun j : Fin 4 => posAt c j) := by
  unfold posAt
  rw [bigSep_sep', bigSep_fin9, bigSep_fin4, bigSep_fin4]
  iintro ⟨H0, H1, H2, H3, H4, H5⟩
  isplitl [H0]; · iexact H0
  isplitr [H5]
  · isplitl [H1]; · iexact H1
    isplitl [H2]; · iexact H2
    isplitl [H3] <;> iassumption
  iexact H5

/-- A persistent fact may be used once per summand. -/
theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's ghost state from what all devices allocated. -/
theorem regroup :
    (bigSep Finset.univ fun c : Dev nD => iprop((bigSep Finset.univ fun k : Fin 9 => iprop(∃ κ : ℕ, cellInv ER (Rd m ρ) κ (kcell (c, k))))
          ∗ (bigSep Finset.univ fun k : Fin 9 => iprop(atPos ER (kcell (c, k)) 0 ∅ 0 ∗ reached ER (kcell (c, k)) 0))
          ∗ bigSep Finset.univ fun d : Dev nD => minted c d) : sProp 𝕄)
      ⊢ bigSep Finset.univ (G' m ρ) := by
  rw [bigSep_sep', bigSep_sep', ← bigSep_univ_prod (fun ck : Dev nD × Fin 9 => iprop(∃ κ : ℕ, cellInv ER (Rd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (Rd m ρ) κ (kcell ck) : sProp 𝕄))) $$ HI
  icases HK with ⟨%K, #HI⟩
  ihave Htk := (deal (F := F)) $$ Htok
  ihave Hps := (show (bigSep Finset.univ fun c : Dev nD => bigSep Finset.univ fun k : Fin 9 => (atPos ER (kcell (c, k)) 0 ∅ 0 : sProp 𝕄))
    ⊢ bigSep Finset.univ fun c : Dev nD => iprop(atPos ER (barCell c) 0 ∅ 0 ∗ bigSep Finset.univ fun j : Fin 4 => posAt c j)
    from bigSep_mono fun c _ => positions c) $$ Hat
  iapply (bigSep_keep (R := records m ρ K)
    (Φ := fun c : Dev nD => iprop((atPos ER (barCell c) 0 ∅ 0 ∗ bigSep Finset.univ fun j : Fin 4 => posAt c j) ∗ bigSep Finset.univ fun j : Fin 4 => payTok c j))
    fun c _ => by
      unfold G' ghost
      iintro ⟨#H, ⟨HaB, Ha⟩, Ht⟩
      iexists K
      isplitr; · iexact H
      isplitl [HaB]; · iexact HaB
      isplitl [Ha] <;> iassumption)
  isplitr
  · unfold records; isplitl; · iexact HI
    iexact HR
  · iapply (Entails.of_eq (bigSep_sep' Finset.univ (fun c : Dev nD => (iprop(atPos ER (barCell c) 0 ∅ 0 ∗ bigSep Finset.univ fun j : Fin 4 => posAt c j) : sProp 𝕄))
      (fun c => bigSep Finset.univ fun j : Fin 4 => payTok c j)).symm)
    isplitl [Hps] <;> iassumption

/-- The global step: all semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The credit the waits spend -/

/-- A device owes another device's barrier cell one unit, its own nothing. -/
theorem owed_bar (d c : Dev nD) : O₀ d (barCell c) () = if d ≠ c then 1 else 0 := by
  have hb (j : Dev nD) : barDue d j (barCell c) () = if j ≠ d ∧ c = j then 1 else 0 := by
    rw [barDue_apply]
    exact if_congr (and_congr_right fun _ => ⟨fun h => congrArg (fun g : GSem nD τ sig => g.1.1) h, fun h => h ▸ rfl⟩) rfl rfl
  have hr (j : Dev nD) : rcvDue d j (barCell c) () = 0 := by
    rw [rcvDue_apply]; exact if_neg fun h => dma_ne_bar _ (congrArg Prod.snd h.2).symm
  rw [O₀_apply, R0_apply, hr, hr, hr, hr, hb, hb, hb, hb]
  clear hb hr
  revert d c; decide
/-- It owes receive cell `j` of device `c` one block's credit if it is `j` and not `c`. -/
theorem owed_recv (d c : Dev nD) (j : Fin 4) : O₀ d (recvCell c j) () = if d = j ∧ c ≠ d then N else 0 := by
  have hb (k : Dev nD) : barDue d k (recvCell c j) () = 0 := by
    rw [barDue_apply]; exact if_neg fun h => dma_ne_bar _ (congrArg Prod.snd h.2)
  have hr (k : Dev nD) : rcvDue d k (recvCell c j) () = N * if k ≠ d ∧ c = k ∧ j = d then 1 else 0 := by
    rw [rcvDue_apply, mul_ite, mul_one, mul_zero]
    refine if_congr (and_congr_right fun _ => ⟨fun h => ⟨congrArg (fun g : GSem nD τ sig => g.1.1) h, recv_inj (congrArg Prod.snd h)⟩, ?_⟩) rfl rfl
    rintro ⟨rfl, rfl⟩; rfl
  have key : ∀ (c d : Dev nD) (j : Fin 4), ((((if (3 : Dev nD) ≠ d ∧ c = 3 ∧ j = d then 1 else 0) + if (2 : Dev nD) ≠ d ∧ c = 2 ∧ j = d then 1 else 0)
      + if (1 : Dev nD) ≠ d ∧ c = 1 ∧ j = d then 1 else 0) + if (0 : Dev nD) ≠ d ∧ c = 0 ∧ j = d then 1 else 0)
      = if d = j ∧ c ≠ d then 1 else 0 := by decide
  rw [O₀_apply, R0_apply, hr, hr, hr, hr, hb, hb, hb, hb]
  simp only [← mul_add, add_zero]
  rw [key, mul_ite, mul_one, mul_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (j : Fin 4) (hj : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_eq_single j (fun d _ h => if_neg fun h' => h h'.1) (fun h => absurd (Finset.mem_univ _) h)]
  exact if_pos ⟨rfl, hj.symm⟩

/-- The receive semaphores among all semaphores. -/
def recvEmb : Fin 4 ↪ SemLoc sig := ⟨fun j => .dma (recvQ j), fun _ _ h => recv_inj h⟩

/-- What is not needed may go. -/
theorem dropped (P : sProp 𝕄) : P ⊢ iprop(emp) := by iintro -; iempintro

theorem creds (c : Dev nD) :
    (Pipeline.launchCred O₀ c : sProp 𝕄) ⊢ iprop(cred (tallyAt (barCell c) () 3) ∗ bigSep Finset.univ fun j : Fin 4 => rcvCred c j) := by
  unfold Pipeline.launchCred
  rw [bigSep_univ_at _ (SemLoc.reg barS), launch_bar]
  refine sep_mono_right ?_
  refine (bigSep_subset (t := Finset.univ.map recvEmb) fun sm h => ?_).trans ?_
  · obtain ⟨j, -, rfl⟩ := Finset.mem_map.mp h
    exact Finset.mem_erase.mpr ⟨dma_ne_bar _, Finset.mem_univ _⟩
  · rw [bigSep_map]
    refine bigSep_mono fun j _ => ?_
    unfold rcvCred
    by_cases hj : j = c
    · rw [if_pos hj]; exact dropped _
    · rw [if_neg hj, ← launch_recv c j hj]; exact Entails.refl _

/-! ### The side conditions of the launch theorem -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN⟩
  imodintro
  unfold start G'
  isplitl
  · isplitl [HG]; · iexact HG
    isplitl [H3]; · iexact H3
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [bigSep_sep', bigSep_fin4, bigSep_fin4, bigSep_fin8]
  iintro ⟨Hr, ⟨⟨H0, H1, H2, H3⟩, HV⟩, HzB⟩
  isplitl [HzB]; · iexact HzB
  isplitr [Hr]
  · isplitl [H0]; · iexact H0
    isplitl [H1]; · iexact H1
    isplitl [H2]; · iexact H2
    isplitl [H3] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert c; fin_cases w <;> fin_cases s <;> decide) _ (by
      rcases t with ⟨_ | _, ht⟩
      · exact Or.inl rfl
      · exact Or.inr rfl)

/-! ### The run -/

/-- What the array of window `w` holds on device `c` at the end. -/
def finalA (c : Dev nD) (w : Fin cfg0.W) : Buf (Elt F) ((cfg0.win w).arr.view.loc (c : Thread nD τ)) := (dats m ρ 0 c).arrAt w cfg0.N

set_option maxRecDepth 8000 in
/-- From any memory with zero counters, on four devices and for any float values: every weakly fair execution of the kernel
    terminates without a fault, each window's array ends at its computed contents, and every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The run, with the arrays named: the arguments end unchanged and the result at the third window's final contents. -/
theorem run_args : θ_run defs (onTc (τ := τ) (main (F := F))) (s₀ m ρ)
    (fun r => (∀ c : Dev nD, r.2.mem ((c : Thread nD τ).loc main_v1) = finalA m ρ c (2 : Fin 3)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (run_main m ρ).mono fun r h => ⟨fun c => ⟨h.1 c 2, (h.1 c 0).trans (finalA_x m ρ c), (h.1 c 1).trans (finalA_w m ρ c)⟩, h.2⟩

end Cert.KernelIdeal.A2A

end
-- ==== Proof.IdealValue.lean ====
/-
# The value the kernel leaves: each device's columns of the rectified product

Row block `d` of device `c`'s result is device `d`'s block `relu (x_d · w[:, 256 c : 256 c + 256])`. The four `x_d` are
the row blocks of one matrix `X`, so the entry in row `r` and column `l` of the result is entry `(r, 256 c + l)` of
`relu (X · w)`: both are the maximum with zero of the sum, over the 1024 common indices, of the same products.
-/
module

public import proofs.«01_k».proof.Proof.IdealRun
public import proofs.«01_k».proof.Proof.Gen.ReferenceIdeal
public import Idealize.ShloMosaic.Lib.Pointwise.Contract
public import Idealize.ShloMosaic.Lib.Pipeline.Value
public import Idealize.ShloMosaic.Lib.Layout

@[expose] public section

noncomputable section

namespace Cert.KernelIdeal.A2A

open Cert.KernelIdeal Cert.KernelIdeal.Gen
open Idealize.ShloMosaic
open Idealize.ShloMosaic.TcCoe

section AnyFloat
variable {F : FTy → Type} [FloatOps F]
variable (m : (ℓ : Loc nD τ sig) → Buf (Elt F) ℓ) (ρ : Dev nD → PrngReg)

/-- The staged rows of `x` are the whole of the device's first argument. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The staged `w` is the whole of the device's second argument. -/
theorem wstg_eq (c : Dev nD) : wstg m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- The result array ends as the staged result, all of it. -/
theorem finalA_o (c : Dev nD) : finalA m ρ c (2 : Fin 3) = outAt m ρ c := by
  have hz : ∀ a, (win0_2.index (0 : Fin 1)) a * main_v1.ty.shape.size a = 0 := fun a => by fin_cases a <;> decide
  refine (dats m ρ 0 c).arrAt_eq_of_cover (2 : Fin 3) (outAt m ρ c) (fun t _ => ?_) fun i => ⟨t0_0, flush0_2 _, ?_⟩
  · rw [fin_N0 t]
    exact (Memref.read_access_unit_zero (Elt F) main_v1 (funext hz) (fun a => by fin_cases a <;> decide) (outAt m ρ c)).symm
  · show i ∈ (win0_2.blk (0 : Fin 1)).view.set
    refine (congrArg (i ∈ ·) (View.set_slice_whole _ _)).mpr (Rect.mem_set_unit.mpr fun a => ⟨?_, ?_⟩)
    · exact (hz a).le.trans (Nat.zero_le _)
    · exact (i a).isLt.trans_eq ((Nat.zero_add _).symm.trans (congrArg (· + _) (hz a).symm))

/-- The loaded `x` at an index: the first argument there. -/
theorem xval_apply (c : Dev nD) (i : S256x1024.Idx) : xval m ρ c i = m ((c : Thread nD τ).loc main_arg0) i := by
  rw [← xstg_eq m ρ c]
  refine congrArg (xstg m ρ c) ?_
  refine funext fun a => Fin.ext ?_
  show (xAll.emb i a).val = (i a).val
  fin_cases a <;> simp [xAll, Rect.emb_apply]

/-- The loaded columns of `w` at an index: the second argument `256 j` columns further along. -/
theorem wcol_apply (c : Dev nD) (j : Fin 4) (i : S1024x256.Idx) (i' : S1024x1024.Idx) (h0 : (i' 0).val = (i 0).val)
    (h1 : (i' 1).val = 256 * j.val + (i 1).val) : wcol m ρ c j i = m ((c : Thread nD τ).loc main_arg1) i' := by
  rw [← wstg_eq m ρ c]
  refine congrArg (wstg m ρ c) ?_
  refine funext fun a => Fin.ext ?_
  show ((colR j).emb i a).val = (i' a).val
  fin_cases a
  · simp [colR, Rect.emb_apply, h0]
  · simp [colR, Rect.emb_apply, h1]

end AnyFloat

/-! ## The rectified product, over the reals -/

/-- The rectified product of two whole matrices, as the reference computes it. -/
def relu (X W : FVec Ideal S1024x1024 .f32) : FVec Ideal S1024x1024 .f32 :=
  maximumf (Host.dotGeneral Cert.ReferenceIdeal.dot_S1024x1024_S1024x1024_S1024x1024_1_0_0_1_n_n none X W)
    (broadcastInDim S1024x1024 ![] Cert.ReferenceIdeal.Gen.bcast_S_S1024x1024 (constant Cert.ReferenceIdeal.S_ .f32 0x00000000#32))

/-- The word of the float zero is the real zero. -/
theorem zero_word : (FloatOps.ofBits .f32 0x00000000#32 : Ideal .f32) = (0 : EReal) := by
  simp [FloatOps.ofBits, Ideal.ofBits, Ideal.ieee]

/-- An entry of a device's block: the maximum with zero of the sum of the products. -/
theorem k0_pay3_apply (x : Vec Ideal S256x1024 .f32) (w : Vec Ideal S1024x256 .f32) (i : S256x256.Idx) :
    k0_pay3 x w i = max (∑ k : Fin 1024, (x (ix2 (i 0) k) : EReal) * w (ix2 k (i 1))) (0 : EReal) := by
  unfold k0_pay3
  rw [shapeCast_self, shapeCast_self]
  refine congrArg₂ (max : EReal → EReal → EReal) ?_ zero_word
  simp only [pointwise]
  exact (congrArg (· + _) zero_word).trans (zero_add _)

/-- An entry of the rectified product: the maximum with zero of the sum of the products. -/
theorem relu_apply (X W : FVec Ideal S1024x1024 .f32) (i : S1024x1024.Idx) :
    relu X W i = max (∑ k : Fin 1024, (X (ix2 (i 0) k) : EReal) * W (ix2 k (i 1))) (0 : EReal) := by
  refine congrArg₂ (max : EReal → EReal → EReal) ?_ zero_word
  simp only [pointwise]
  exact zero_add _

/-- When the devices' first arguments are the row blocks of `X` and their second arguments are all `W`, the result staged
    on device `c` is column block `c` of the rectified product of `X` and `W`. -/
theorem outAt_block (m : (ℓ : Loc nD τ sig) → Buf (Elt Ideal) ℓ) (ρ : Dev nD → PrngReg) (X W : FVec Ideal S1024x1024 .f32)
    (hx : ∀ c : Dev nD, m ((c : Thread nD τ).loc main_arg0) = Layout.block ⟨2, ![256, 1024]⟩ ⟨2, ![1024, 1024]⟩ 0 4 c X)
    (hw : ∀ c : Dev nD, m ((c : Thread nD τ).loc main_arg1) = W) (c : Dev nD) :
    outAt m ρ c = Layout.block ⟨2, ![1024, 256]⟩ ⟨2, ![1024, 1024]⟩ 1 4 c (relu X W) := by
  funext i
  rw [Layout.block_apply, relu_apply]
  refine (k0_pay3_apply _ _ _).trans (congrArg (max · (0 : EReal)) (Finset.sum_congr rfl fun k _ => ?_))
  refine congrArg₂ (· * · : EReal → EReal → EReal) ?_ ?_
  · rw [xval_apply, hx, Layout.block_apply]
    refine congrArg X (funext fun a => Fin.ext ?_)
    match a with
    | 0 =>
      show (i 0).val / 256 * 256 + (i 0).val % 256 = (i 0).val
      omega
    | 1 => rfl
  · refine (wcol_apply m ρ _ c _ _ ?_ ?_).trans (congrFun (hw _) _)
    · rfl
    · show c.val * 256 + (i 1).val = 256 * c.val + (i 1).val
      omega

end Cert.KernelIdeal.A2A

end
-- ==== Proof.lean ====
/-
# The five claims

The kernel runs, leaves its arguments as they were and every semaphore counter at zero, at bit patterns and at the reals;
the reference runs and leaves its arguments; the real-number program is the kernel's own text; and, over the reals, each
device's result is its column block of the reference's result on the whole matrices.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.IdealValue
public import Idealize.ShloMosaic.Adequacy
public import Idealize.ShloMosaic.Init

@[expose] public section

noncomputable section

namespace Cert.Proof

open Idealize.ShloMosaic Idealize.SL.Sem

/-- The kernel at bit patterns runs, leaves its arguments unchanged and every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.A2A.run_args (F := Bits) m g)

/-- The kernel at the reals runs, leaves its arguments unchanged and every counter at zero. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.A2A.run_args (F := Ideal) m g)

/-- The reference runs and leaves its arguments unchanged; it declares no semaphore, so every counter is at zero. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals, from row blocks of the whole `x` and copies of `w`, each device's result ends as its column block of
    the rectified product of the whole `x` and `w`, which is what the reference's result ends as. -/
theorem value : Cert.algebraic_KernelIdeal_ReferenceIdeal (hKernelIdeal := Cert.KernelIdeal.Gen.facts)
    (hReferenceIdeal := Cert.ReferenceIdeal.Gen.facts) := fun m g m' g' _ hm =>
  ⟨Cert.KernelIdeal.A2A.relu _ _,
    (θ_run Cert.KernelIdeal.defs _ _).mono
      (fun _ h c => ⟨(h.1 c).1.trans ((Cert.KernelIdeal.A2A.finalA_o m g c).trans
        (Cert.KernelIdeal.A2A.outAt_block m g _ _ (fun d => (hm d).1) (fun d => (hm d).2) c)), (h.1 c).2⟩)
      (Cert.KernelIdeal.A2A.run_args (F := Ideal) m g),
    (θ_run Cert.ReferenceIdeal.defs _ _).mono (fun _ h => h 0) (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
